-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_scores [hPre_distinct_scores : Cert.Pre_distinct_scores.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_scores [hPre_distinct_scores : Cert.Pre_distinct_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_distinct_scores [hKernelIdeal : Cert.KernelIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_distinct_scores [hReferenceIdeal : Cert.ReferenceIdeal.Facts] [hPre_distinct_scores : Cert.Pre_distinct_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_distinct_scores [hKernelIdeal : Cert.KernelIdeal.Facts] [hReferenceIdeal : Cert.ReferenceIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_distinct_scores : Cert.Pre_distinct_scores.Facts),
    quiescent_Kernel (hKernel := hKernel)
    ∧ quiescent_KernelIdeal (hKernelIdeal := hKernelIdeal)
    ∧ quiescent_KernelIdeal_pre_distinct_scores (hKernelIdeal := hKernelIdeal) (hPre_distinct_scores := hPre_distinct_scores)
    ∧ quiescent_ReferenceIdeal (hReferenceIdeal := hReferenceIdeal)
    ∧ quiescent_ReferenceIdeal_pre_distinct_scores (hReferenceIdeal := hReferenceIdeal) (hPre_distinct_scores := hPre_distinct_scores)
    ∧ preserves_Kernel_KernelIdeal
    ∧ algebraic_KernelIdeal_ReferenceIdeal_pre_distinct_scores (hKernelIdeal := hKernelIdeal) (hReferenceIdeal := hReferenceIdeal) (hPre_distinct_scores := hPre_distinct_scores)
-- ==== Pre_distinct_scores.lean ====
abbrev S4096x8x64 : Shape := ⟨3, ![4096, 8, 64]⟩
abbrev S5 : Shape := ⟨1, ![5]⟩
abbrev S64 : Shape := ⟨1, ![64]⟩
abbrev S4x1024x8x64 : Shape := ⟨4, ![4, 1024, 8, 64]⟩
abbrev S4x32x32x8x64 : Shape := ⟨5, ![4, 32, 32, 8, 64]⟩
abbrev S_ : Shape := ⟨0, ![]⟩
abbrev S4x32x8x64 : Shape := ⟨4, ![4, 32, 8, 64]⟩
abbrev S4x8x1024x32 : Shape := ⟨4, ![4, 8, 1024, 32]⟩
abbrev S4x8x1024x32x32 : Shape := ⟨5, ![4, 8, 1024, 32, 32]⟩

class Facts : Prop where
  shapeCasts_S4096x8x64_S4x1024x8x64 : S4096x8x64.ShapeCasts S4x1024x8x64
  shapeCasts_S4096x8x64_S4x32x32x8x64 : S4096x8x64.ShapeCasts S4x32x32x8x64
  reducesTo_S4x32x32x8x64_S4x32x8x64_d2 : S4x32x32x8x64.ReducesTo [2] S4x32x8x64
  h_S_ : 0 < S_.numel
  bcast_S_S4x32x8x64 : S_.BroadcastsInDim S4x32x8x64 (![] : Fin 0 → Fin S4x32x8x64.rank)
  bcast_S_S4x8x1024x32 : S_.BroadcastsInDim S4x8x1024x32 (![] : Fin 0 → Fin S4x8x1024x32.rank)
  bcast_S4x8x1024x32_S4x8x1024x32x32_0_1_2_3 : S4x8x1024x32.BroadcastsInDim S4x8x1024x32x32 (![0, 1, 2, 3] : Fin 4 → Fin S4x8x1024x32x32.rank)
  bcast_S4x8x1024x32_S4x8x1024x32x32_0_1_2_4 : S4x8x1024x32.BroadcastsInDim S4x8x1024x32x32 (![0, 1, 2, 4] : Fin 4 → Fin S4x8x1024x32x32.rank)
  bcast_S_S4x8x1024x32x32 : S_.BroadcastsInDim S4x8x1024x32x32 (![] : Fin 0 → Fin S4x8x1024x32x32.rank)
  dot_S4x1024x8x64_S4x32x8x64_S4x8x1024x32_3_3_1_1_02_02_wf : DotDims.WF S4x1024x8x64 S4x32x8x64 S4x8x1024x32 [3] [3] [1] [1] [0, 2] [0, 2]

variable [Facts]

def dot_S4x1024x8x64_S4x32x8x64_S4x8x1024x32_3_3_1_1_02_02 : DotDims S4x1024x8x64 S4x32x8x64 S4x8x1024x32 where
  lhsContracting := [3]
  rhsContracting := [3]
  lhsNonContracting := [1]
  rhsNonContracting := [1]
  lhsBatch := [0, 2]
  rhsBatch := [0, 2]
  wf := dot_S4x1024x8x64_S4x32x8x64_S4x8x1024x32_3_3_1_1_02_02_wf
def fn_part1 {F : FTy → Type} [FloatOps F] (main_v8 : IVec S4x8x1024x32x32 32) (main_v19 : IVec S4x8x1024x32x32 1) : IVec S4x8x1024x32x32 1 :=
  let main_c_2 : IVec S_ 32 := constantI S_ 32 256#32
  let main_v20 : IVec S4x8x1024x32x32 32 := broadcastInDim S4x8x1024x32x32 ![] bcast_S_S4x8x1024x32x32 main_c_2
  let main_v21 : IVec S4x8x1024x32x32 1 := cmpi .sge main_v8 main_v20
  let main_v22 : IVec S4x8x1024x32x32 1 := andi main_v19 main_v21
  let main_v23 : IVec S4x8x1024x32x32 1 := noti main_v22
  main_v23

def fn {F : FTy → Type} [FloatOps F] (main_arg0 : FVec F S4096x8x64 .f32) (main_arg1 : FVec F S4096x8x64 .f32) (main_arg2 : FVec F S4096x8x64 .f32) (main_arg3 : FVec F S4096x8x64 .f32) (main_arg4 : IVec S5 32) (main_arg5 : FVec F S64 .f32) (main_arg6 : FVec F S64 .f32) (main_arg7 : FVec F S64 .f32) : IVec S4x8x1024x32x32 1 :=
  let main_v0 : FVec F S4x1024x8x64 .f32 := shapeCast S4x1024x8x64 main_arg0 shapeCasts_S4096x8x64_S4x1024x8x64
  let main_v1 : FVec F S4x32x32x8x64 .f32 := shapeCast S4x32x32x8x64 main_arg1 shapeCasts_S4096x8x64_S4x32x32x8x64
  let main_cst : FVec F S_ .f32 := constant S_ .f32 0x00000000#32
  let main_v2 : FVec F S4x32x8x64 .f32 := (fun x v => Host.reduceAdd x v reducesTo_S4x32x32x8x64_S4x32x8x64_d2 h_S_) main_v1 main_cst
  let main_cst_0 : FVec F S_ .f32 := constant S_ .f32 0x42000000#32
  let main_v3 : FVec F S4x32x8x64 .f32 := broadcastInDim S4x32x8x64 ![] bcast_S_S4x32x8x64 main_cst_0
  let main_v4 : FVec F S4x32x8x64 .f32 := Host.divf main_v2 main_v3
  let main_v5 : FVec F S4x8x1024x32 .f32 := (fun l r => Host.dotGeneral dot_S4x1024x8x64_S4x32x8x64_S4x8x1024x32_3_3_1_1_02_02 none l r) main_v0 main_v4
  let main_cst_1 : FVec F S_ .f32 := constant S_ .f32 0x3E000000#32
  let main_v6 : FVec F S4x8x1024x32 .f32 := broadcastInDim S4x8x1024x32 ![] bcast_S_S4x8x1024x32 main_cst_1
  let main_v7 : FVec F S4x8x1024x32 .f32 := mulf main_v5 main_v6
  let main_v8 : IVec S4x8x1024x32x32 32 := iotaInDim S4x8x1024x32x32 32 2
  let main_v9 : IVec S4x8x1024x32x32 32 := iotaInDim S4x8x1024x32x32 32 3
  let main_v10 : IVec S4x8x1024x32x32 32 := iotaInDim S4x8x1024x32x32 32 4
  let main_v11 : FVec F S4x8x1024x32x32 .f32 := broadcastInDim S4x8x1024x32x32 ![0, 1, 2, 3] bcast_S4x8x1024x32_S4x8x1024x32x32_0_1_2_3 main_v7
  let main_v12 : FVec F S4x8x1024x32x32 .f32 := broadcastInDim S4x8x1024x32x32 ![0, 1, 2, 4] bcast_S4x8x1024x32_S4x8x1024x32x32_0_1_2_4 main_v7
  let main_v13 : IVec S4x8x1024x32x32 1 := cmpf .oeq main_v11 main_v12
  let main_v14 : IVec S4x8x1024x32x32 1 := cmpi .slt main_v9 main_v10
  let main_v15 : IVec S4x8x1024x32x32 1 := andi main_v13 main_v14
  let main_c : IVec S_ 32 := constantI S_ 32 32#32
  let main_v16 : IVec S4x8x1024x32x32 32 := broadcastInDim S4x8x1024x32x32 ![] bcast_S_S4x8x1024x32x32 main_c
  let main_v17 : IVec S4x8x1024x32x32 32 := muli main_v10 main_v16
  let main_v18 : IVec S4x8x1024x32x32 1 := cmpi .sle main_v17 main_v8
  let main_v19 : IVec S4x8x1024x32x32 1 := andi main_v15 main_v18
  fn_part1 (F := F) main_v8 main_v19
-- ==== Kernel.lean ====
abbrev S4096x8x64 : Shape := ⟨3, ![4096, 8, 64]⟩
abbrev S5 : Shape := ⟨1, ![5]⟩
abbrev S64 : Shape := ⟨1, ![64]⟩
abbrev S4x1024x8x64 : Shape := ⟨4, ![4, 1024, 8, 64]⟩
abbrev S1x64 : Shape := ⟨2, ![1, 64]⟩
abbrev S1x1024x8x64 : Shape := ⟨4, ![1, 1024, 8, 64]⟩
abbrev S1024x8x64 : Shape := ⟨3, ![1024, 8, 64]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S32x32x64 : Shape := ⟨3, ![32, 32, 64]⟩
abbrev S32x64 : Shape := ⟨2, ![32, 64]⟩
abbrev S32x1024 : Shape := ⟨2, ![32, 1024]⟩
abbrev S1x1024 : Shape := ⟨2, ![1, 1024]⟩
abbrev S256x256 : Shape := ⟨2, ![256, 256]⟩
abbrev S256x64 : Shape := ⟨2, ![256, 64]⟩
abbrev S8x256 : Shape := ⟨2, ![8, 256]⟩
abbrev S256x1 : Shape := ⟨2, ![256, 1]⟩
abbrev S512x64 : Shape := ⟨2, ![512, 64]⟩
abbrev S256x512 : Shape := ⟨2, ![256, 512]⟩
abbrev S16x256 : Shape := ⟨2, ![16, 256]⟩
abbrev S16x512 : Shape := ⟨2, ![16, 512]⟩
abbrev S768x64 : Shape := ⟨2, ![768, 64]⟩
abbrev S256x768 : Shape := ⟨2, ![256, 768]⟩
abbrev S24x256 : Shape := ⟨2, ![24, 256]⟩
abbrev S24x768 : Shape := ⟨2, ![24, 768]⟩
abbrev S256x1024 : Shape := ⟨2, ![256, 1024]⟩
abbrev S32x256 : Shape := ⟨2, ![32, 256]⟩
abbrev S1x1024x1x64 : Shape := ⟨4, ![1, 1024, 1, 64]⟩

abbrev nBuf : Space → Nat
  | .hbm => 15
  | .vmem => 10
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8x64, .f32⟩
  | .hbm, ⟨4, _⟩ => ⟨S5, .i32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4x1024x8x64, .f32⟩
  | .hbm, ⟨9, _⟩ => ⟨S4x1024x8x64, .f32⟩
  | .hbm, ⟨10, _⟩ => ⟨S4x1024x8x64, .f32⟩
  | .hbm, ⟨11, _⟩ => ⟨S1x64, .f32⟩
  | .hbm, ⟨12, _⟩ => ⟨S1x64, .f32⟩
  | .hbm, ⟨13, _⟩ => ⟨S4x1024x8x64, .f32⟩
  | .hbm, ⟨14, _⟩ => ⟨S4096x8x64, .f32⟩
  | .local _ .vmem, ⟨0, _⟩ => ⟨S1x1024x8x64, .f32⟩
  | .local _ .vmem, ⟨1, _⟩ => ⟨S1x1024x8x64, .f32⟩
  | .local _ .vmem, ⟨2, _⟩ => ⟨S1x1024x8x64, .f32⟩
  | .local _ .vmem, ⟨3, _⟩ => ⟨S1x1024x8x64, .f32⟩
  | .local _ .vmem, ⟨4, _⟩ => ⟨S1x1024x8x64, .f32⟩
  | .local _ .vmem, ⟨5, _⟩ => ⟨S1x1024x8x64, .f32⟩
  | .local _ .vmem, ⟨6, _⟩ => ⟨S1x64, .f32⟩
  | .local _ .vmem, ⟨7, _⟩ => ⟨S1x64, .f32⟩
  | .local _ .vmem, ⟨8, _⟩ => ⟨S1x1024x8x64, .f32⟩
  | .local _ .vmem, ⟨9, _⟩ => ⟨S1x1024x8x64, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x8x64 : Shape := ⟨3, ![4096, 8, 64]⟩
abbrev S5 : Shape := ⟨1, ![5]⟩
abbrev S64 : Shape := ⟨1, ![64]⟩
abbrev S4x1024x8x64 : Shape := ⟨4, ![4, 1024, 8, 64]⟩
abbrev S4x1024x8 : Shape := ⟨3, ![4, 1024, 8]⟩
abbrev S_ : Shape := ⟨0, ![]⟩
abbrev S4x32x32x8x64 : Shape := ⟨5, ![4, 32, 32, 8, 64]⟩
abbrev S4x32x8x64 : Shape := ⟨4, ![4, 32, 8, 64]⟩
abbrev S4x8x1024x32 : Shape := ⟨4, ![4, 8, 1024, 32]⟩
abbrev S1024 : Shape := ⟨1, ![1024]⟩
abbrev S1024x1 : Shape := ⟨2, ![1024, 1]⟩
abbrev S32 : Shape := ⟨1, ![32]⟩
abbrev S1x32 : Shape := ⟨2, ![1, 32]⟩
abbrev S1024x32 : Shape := ⟨2, ![1024, 32]⟩
abbrev S1x1x1024x32 : Shape := ⟨4, ![1, 1, 1024, 32]⟩
abbrev S4x8x1024x8 : Shape := ⟨4, ![4, 8, 1024, 8]⟩
abbrev S1x1x1024x1 : Shape := ⟨4, ![1, 1, 1024, 1]⟩
abbrev S4x8x64x1024 : Shape := ⟨4, ![4, 8, 64, 1024]⟩
abbrev S4x1024x8x1 : Shape := ⟨4, ![4, 1024, 8, 1]⟩
abbrev S4x8x1024x64 : Shape := ⟨4, ![4, 8, 1024, 64]⟩
abbrev S4x8x1024x8x1 : Shape := ⟨5, ![4, 8, 1024, 8, 1]⟩
abbrev S1x1x1x1x32 : Shape := ⟨5, ![1, 1, 1, 1, 32]⟩
abbrev S4x8x1024x8x32 : Shape := ⟨5, ![4, 8, 1024, 8, 32]⟩
abbrev S4x8x1024x32x32 : Shape := ⟨5, ![4, 8, 1024, 32, 32]⟩
abbrev S4x8x1024x1024 : Shape := ⟨4, ![4, 8, 1024, 1024]⟩
abbrev S1x1024 : Shape := ⟨2, ![1, 1024]⟩
abbrev S1024x1024 : Shape := ⟨2, ![1024, 1024]⟩
abbrev S1x1x1024x1024 : Shape := ⟨4, ![1, 1, 1024, 1024]⟩
abbrev S4x8x1024 : Shape := ⟨3, ![4, 8, 1024]⟩
abbrev S4x8x1024x1 : Shape := ⟨4, ![4, 8, 1024, 1]⟩

abbrev nBuf : Space → Nat
  | .hbm => 171
  | .vmem => 0
  | .smem => 0
  | _ => 0

abbrev hbmTy0_0 (i : Nat) : BufTy := match i % 128 with
  | 0 => ⟨S4096x8x64, .f32⟩
  | 1 => ⟨S4096x8x64, .f32⟩
  | 2 => ⟨S4096x8x64, .f32⟩
  | 3 => ⟨S4096x8x64, .f32⟩
  | 4 => ⟨S5, .i32⟩
  | 5 => ⟨S64, .f32⟩
  | 6 => ⟨S64, .f32⟩
  | 7 => ⟨S64, .f32⟩
  | 8 => ⟨S4x1024x8x64, .f32⟩
  | 9 => ⟨S4x1024x8x64, .f32⟩
  | 10 => ⟨S4x1024x8x64, .f32⟩
  | 11 => ⟨S4x1024x8, .f32⟩
  | 12 => ⟨S4x1024x8, .f32⟩
  | 13 => ⟨S4x1024x8, .f32⟩
  | 14 => ⟨S_, .f32⟩
  | 15 => ⟨S4x1024x8, .f32⟩
  | 16 => ⟨S4x1024x8, .f32⟩
  | 17 => ⟨S_, .f32⟩
  | 18 => ⟨S4x1024x8, .f32⟩
  | 19 => ⟨S4x1024x8, .f32⟩
  | 20 => ⟨S4x1024x8, .f32⟩
  | 21 => ⟨S4x1024x8, .f32⟩
  | 22 => ⟨S4x1024x8, .f32⟩
  | 23 => ⟨S_, .f32⟩
  | 24 => ⟨S4x1024x8, .f32⟩
  | 25 => ⟨S4x1024x8, .f32⟩
  | 26 => ⟨S_, .f32⟩
  | 27 => ⟨S4x1024x8, .f32⟩
  | 28 => ⟨S4x1024x8, .f32⟩
  | 29 => ⟨S4x1024x8, .f32⟩
  | 30 => ⟨S4x1024x8, .f32⟩
  | 31 => ⟨S4x1024x8, .f32⟩
  | 32 => ⟨S_, .f32⟩
  | 33 => ⟨S4x1024x8, .f32⟩
  | 34 => ⟨S4x1024x8, .f32⟩
  | 35 => ⟨S_, .f32⟩
  | 36 => ⟨S4x1024x8, .f32⟩
  | 37 => ⟨S4x1024x8, .f32⟩
  | 38 => ⟨S4x32x32x8x64, .f32⟩
  | 39 => ⟨S_, .f32⟩
  | 40 => ⟨S4x32x8x64, .f32⟩
  | 41 => ⟨S_, .f32⟩
  | 42 => ⟨S4x32x8x64, .f32⟩
  | 43 => ⟨S4x32x8x64, .f32⟩
  | 44 => ⟨S4x32x32x8x64, .f32⟩
  | 45 => ⟨S_, .f32⟩
  | 46 => ⟨S4x32x8x64, .f32⟩
  | 47 => ⟨S_, .f32⟩
  | 48 => ⟨S4x32x8x64, .f32⟩
  | 49 => ⟨S4x32x8x64, .f32⟩
  | 50 => ⟨S4x8x1024x32, .f32⟩
  | 51 => ⟨S_, .f32⟩
  | 52 => ⟨S4x8x1024x32, .f32⟩
  | 53 => ⟨S4x8x1024x32, .f32⟩
  | 54 => ⟨S1024, .i32⟩
  | 55 => ⟨S_, .i32⟩
  | 56 => ⟨S_, .i32⟩
  | 57 => ⟨S1024, .i32⟩
  | 58 => ⟨S1024, .i32⟩
  | 59 => ⟨S1024, .i32⟩
  | 60 => ⟨S_, .i32⟩
  | 61 => ⟨S1024, .i32⟩
  | 62 => ⟨S1024, .i1⟩
  | 63 => ⟨S1024, .i32⟩
  | 64 => ⟨S1024, .i32⟩
  | 65 => ⟨S_, .i32⟩
  | 66 => ⟨S1024, .i32⟩
  | 67 => ⟨S1024, .i1⟩
  | 68 => ⟨S1024, .i1⟩
  | 69 => ⟨S_, .i32⟩
  | 70 => ⟨S1024, .i32⟩
  | 71 => ⟨S1024, .i32⟩
  | 72 => ⟨S1024, .i32⟩
  | 73 => ⟨S1024x1, .i32⟩
  | 74 => ⟨S32, .i32⟩
  | 75 => ⟨S1x32, .i32⟩
  | 76 => ⟨S1024x32, .i32⟩
  | 77 => ⟨S1024x32, .i32⟩
  | 78 => ⟨S1024x32, .i1⟩
  | 79 => ⟨S1x1x1024x32, .i1⟩
  | 80 => ⟨S_, .f32⟩
  | 81 => ⟨S_, .f32⟩
  | 82 => ⟨S4x8x1024x32, .i1⟩
  | 83 => ⟨S4x8x1024x32, .f32⟩
  | 84 => ⟨S4x8x1024x32, .f32⟩
  | 85 => ⟨S4x8x1024x8, .f32⟩
  | 86 => ⟨S4x8x1024x8, .i32⟩
  | 87 => ⟨S1x1x1024x1, .i32⟩
  | 88 => ⟨S4x8x1024x8, .i32⟩
  | 89 => ⟨S4x8x1024x8, .i1⟩
  | 90 => ⟨S_, .i32⟩
  | 91 => ⟨S_, .i32⟩
  | 92 => ⟨S4x8x1024x8, .i32⟩
  | 93 => ⟨S4x8x1024x8, .i32⟩
  | 94 => ⟨S1x1x1024x32, .i1⟩
  | 95 => ⟨S4x8x1024x32, .f32⟩
  | 96 => ⟨S4x8x1024x32, .f32⟩
  | 97 => ⟨S_, .f32⟩
  | 98 => ⟨S4x8x1024x32, .f32⟩
  | 99 => ⟨S4x8x1024x32, .f32⟩
  | 100 => ⟨S_, .f32⟩
  | 101 => ⟨S4x8x1024x32, .f32⟩
  | 102 => ⟨S4x8x1024x32, .f32⟩
  | 103 => ⟨S4x8x1024x32, .f32⟩
  | 104 => ⟨S_, .f32⟩
  | 105 => ⟨S_, .f32⟩
  | 106 => ⟨S4x8x1024x32, .i1⟩
  | 107 => ⟨S4x8x1024x32, .f32⟩
  | 108 => ⟨S4x8x1024x32, .f32⟩
  | 109 => ⟨S4x8x64x1024, .f32⟩
  | 110 => ⟨S4x1024x8x64, .f32⟩
  | 111 => ⟨S4x1024x8x1, .f32⟩
  | 112 => ⟨S4x1024x8x64, .f32⟩
  | 113 => ⟨S4x1024x8x64, .f32⟩
  | 114 => ⟨S4x8x1024x64, .f32⟩
  | 115 => ⟨S4x8x1024x64, .f32⟩
  | 116 => ⟨S4x8x1024x64, .f32⟩
  | 117 => ⟨S_, .i32⟩
  | 118 => ⟨S4x8x1024x8, .i32⟩
  | 119 => ⟨S4x8x1024x8, .i1⟩
  | 120 => ⟨S_, .i32⟩
  | 121 => ⟨S_, .i32⟩
  | 122 => ⟨S4x8x1024x8, .i32⟩
  | 123 => ⟨S4x8x1024x8, .i32⟩
  | 124 => ⟨S4x8x1024x8x1, .i32⟩
  | 125 => ⟨S32, .i32⟩
  | 126 => ⟨S1x1x1x1x32, .i32⟩
  | 127 => ⟨S4x8x1024x8x32, .i32⟩
  | _ => ⟨S4096x8x64, .f32⟩

abbrev hbmTy0_1 (i : Nat) : BufTy := match i % 128 with
  | 0 => ⟨S4x8x1024x8x32, .i32⟩
  | 1 => ⟨S4x8x1024x8x32, .i1⟩
  | 2 => ⟨S4x8x1024x8x1, .i1⟩
  | 3 => ⟨S4x8x1024x8x32, .i1⟩
  | 4 => ⟨S4x8x1024x8x32, .i1⟩
  | 5 => ⟨S_, .i1⟩
  | 6 => ⟨S4x8x1024x32, .i1⟩
  | 7 => ⟨S4x8x1024x32x32, .i1⟩
  | 8 => ⟨S4x8x1024x1024, .i1⟩
  | 9 => ⟨S1024, .i32⟩
  | 10 => ⟨S1024x1, .i32⟩
  | 11 => ⟨S1x1024, .i32⟩
  | 12 => ⟨S1024x1024, .i32⟩
  | 13 => ⟨S1024x1024, .i32⟩
  | 14 => ⟨S1024x1024, .i1⟩
  | 15 => ⟨S4x8x1024x1024, .f32⟩
  | 16 => ⟨S_, .f32⟩
  | 17 => ⟨S4x8x1024x1024, .f32⟩
  | 18 => ⟨S4x8x1024x1024, .f32⟩
  | 19 => ⟨S1x1x1024x1024, .i1⟩
  | 20 => ⟨S4x8x1024x1024, .i1⟩
  | 21 => ⟨S4x8x1024x1024, .i1⟩
  | 22 => ⟨S4x8x1024x1024, .f32⟩
  | 23 => ⟨S4x8x1024x1024, .f32⟩
  | 24 => ⟨S_, .f32⟩
  | 25 => ⟨S4x8x1024x1024, .f32⟩
  | 26 => ⟨S4x8x1024x1024, .f32⟩
  | 27 => ⟨S_, .f32⟩
  | 28 => ⟨S4x8x1024x1024, .f32⟩
  | 29 => ⟨S4x8x1024x1024, .f32⟩
  | 30 => ⟨S4x8x1024x1024, .f32⟩
  | 31 => ⟨S_, .f32⟩
  | 32 => ⟨S_, .f32⟩
  | 33 => ⟨S4x8x1024x1024, .f32⟩
  | 34 => ⟨S4x8x1024x1024, .f32⟩
  | 35 => ⟨S4x8x1024x64, .f32⟩
  | 36 => ⟨S4x8x1024, .f32⟩
  | 37 => ⟨S4x8x1024x1, .f32⟩
  | 38 => ⟨S4x8x1024x64, .f32⟩
  | 39 => ⟨S4x8x1024x64, .f32⟩
  | 40 => ⟨S4x1024x8x64, .f32⟩
  | 41 => ⟨S4x1024x8x64, .f32⟩
  | 42 => ⟨S4096x8x64, .f32⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_c : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_0 : Ref sig .tc := ⟨.hbm, 69, rfl⟩
abbrev main_call0_v12 : Ref sig .tc := ⟨.hbm, 70, rfl⟩
abbrev main_call0_v13 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_10 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v44 : Ref sig .tc := ⟨.hbm, 84, rfl⟩
abbrev main_values : Ref sig .tc := ⟨.hbm, 85, rfl⟩
abbrev main_indices : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_11 : Ref sig .tc := ⟨.hbm, 90, rfl⟩
abbrev main_call2_v0 : Ref sig .tc := ⟨.hbm, 91, rfl⟩
abbrev main_call2_v1 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_12 : Ref sig .tc := ⟨.hbm, 97, rfl⟩
abbrev main_v52 : Ref sig .tc := ⟨.hbm, 98, rfl⟩
abbrev main_v53 : Ref sig .tc := ⟨.hbm, 99, rfl⟩
abbrev main_cst_13 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_14 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_c_15 : Ref sig .tc := ⟨.hbm, 117, rfl⟩
abbrev main_v66 : Ref sig .tc := ⟨.hbm, 118, rfl⟩
abbrev main_v67 : Ref sig .tc := ⟨.hbm, 119, rfl⟩
abbrev main_c_16 : Ref sig .tc := ⟨.hbm, 120, rfl⟩
abbrev main_call4_v0 : Ref sig .tc := ⟨.hbm, 121, rfl⟩
abbrev main_call4_v1 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_c_17 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_18 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_19 : Ref sig .tc := ⟨.hbm, 152, rfl⟩
abbrev main_v95 : Ref sig .tc := ⟨.hbm, 153, rfl⟩
abbrev main_v96 : Ref sig .tc := ⟨.hbm, 154, rfl⟩
abbrev main_cst_20 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_21 : Ref sig .tc := ⟨.hbm, 159, rfl⟩
abbrev main_call5_v0 : Ref sig .tc := ⟨.hbm, 160, rfl⟩
abbrev main_call5_v1 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩

abbrev nD : Nat := 1
abbrev τ : Topo := Topo.v7x

variable {F : FTy → Type} [FloatOps F]
-- ==== Proof.Head.lean ====
module

public import proofs.«01_k».proof.Proof.Gen.KernelIdeal.Skeleton

/-!
# One head of the kernel

The kernel's body handles its eight heads one after the other, each by the same operations on the head's own columns.
Here the operations are written once, for the 1024 × 64 arrays `q`, `k` and `v` of one head and the two gate weights.
-/

@[expose] public section

noncomputable section

namespace Cert.KernelIdeal.Head

open Idealize.ShloMosaic Idealize.SL.Sem Cert.KernelIdeal.Gen

/-- The gate of a row: the logistic function of the row's product with the weights. -/
def gate (q : FVec Ideal S1024x64 .f32) (w : FVec Ideal S1x64 .f32) : FVec Ideal S1024x1 .f32 :=
  logistic (shapeCast S1024x1
    (multiReduction .add [1] S1024
      (mulf q (broadcastTo S1024x64 (shapeCast S1x64 (shapeCast S64 w shapeCasts_S1x64_S64) shapeCasts_S64_S1x64)
        broadcasts_S1x64_S1024x64))
      0x00000000#32 reduces_S1024x64_S1024 (.inl rfl) rfl) shapeCasts_S1024_S1024x1)

/-- The means of the 32 blocks of 32 rows. -/
def means (k : FVec Ideal S1024x64 .f32) : FVec Ideal S32x64 .f32 :=
  divf (multiReduction .add [1] S32x64 (shapeCast S32x32x64 k shapeCasts_S1024x64_S32x32x64) 0x00000000#32
      reduces_S32x32x64_S32x64 (.inl rfl) rfl)
    (broadcast S32x64 (Scalar.ofBits .f32 0x42000000#32))

/-- The score of block `j` for row `n`: the scaled product of the block's mean key and the row's query. -/
def scores (q k : FVec Ideal S1024x64 .f32) : FVec Ideal S32x1024 .f32 :=
  mulf (matmul dot_S32x64_S1024x64_S32x1024_1_1_0_0_n_n none (means k) q (constant S32x1024 .f32 0x00000000#32))
    (broadcast S32x1024 (Scalar.ofBits .f32 0x3E000000#32))

/-- The block a column's number lies in: the number over 32, rounded down. -/
def blockOf : IVec S32x1024 32 :=
  let x : IVec S32x1024 32 := iota .tc S32x1024 32 [1] iota_S32x1024_d1_w32
  let d : IVec S32x1024 32 := divsi x (broadcast S32x1024 32#32)
  let sx : IVec S32x1024 32 := subi (extui 32 (cmpi .sgt x (broadcast S32x1024 0#32)) natLt_1_32)
    (extui 32 (cmpi .slt x (broadcast S32x1024 0#32)) natLt_1_32)
  let sd : IVec S32x1024 32 := broadcast S32x1024
    (Scalar.subi (Scalar.extui (Scalar.cmpi .sgt 32#32 0#32)) (Scalar.extui (Scalar.cmpi .slt 32#32 0#32)))
  select (andi (cmpi .ne sx sd) (cmpi .ne (remsi x (broadcast S32x1024 32#32)) (broadcast S32x1024 0#32)))
    (subi d (broadcast S32x1024 1#32)) d

/-- Block `j` starts no later than row `n`. -/
def causal : IVec S32x1024 1 := cmpi .sge blockOf (iota .tc S32x1024 32 [0] iota_S32x1024_d0_w32)

/-- The scores, with the mask's value where the block is not causal. -/
def masked (q k : FVec Ideal S1024x64 .f32) : FVec Ideal S32x1024 .f32 :=
  select causal (scores q k) (broadcast S32x1024 (Named.named κ "mask" 0xCE6E6B28#32))

/-- The largest entry of each column, at every place of the column. -/
def colMax (x : FVec Ideal S32x1024 .f32) : FVec Ideal S32x1024 .f32 :=
  broadcastTo S32x1024 (shapeCast S1x1024
    (multiReduction .maximumf [0] S1024 x 0xFF800000#32 reduces_S32x1024_S1024 (.inl rfl) rfl) shapeCasts_S1024_S1x1024)
    broadcasts_S1x1024_S32x1024

/-- One round: the entries equal to their column's largest are struck out. -/
def round (x : FVec Ideal S32x1024 .f32) : FVec Ideal S32x1024 .f32 :=
  select (cmpf .oeq x (colMax x)) (broadcast S32x1024 (Scalar.ofBits .f32 0xFF800000#32)) x

/-- Seven rounds. -/
def rounds (x : FVec Ideal S32x1024 .f32) : FVec Ideal S32x1024 .f32 :=
  round (round (round (round (round (round (round x))))))

/-- The blocks row `n` looks at, as zeros and ones: causal, and no smaller than what seven rounds leave largest. -/
def chosen (q k : FVec Ideal S1024x64 .f32) : FVec Ideal S32x1024 .f32 :=
  sitofp .f32 (extui 32 (andi (cmpf .oge (masked q k) (colMax (rounds (masked q k)))) causal) natLt_1_32)

/-- The compressed part, gated: the blocks' mean values weighted by the scores. -/
def compressed (q k v : FVec Ideal S1024x64 .f32) (w : FVec Ideal S1x64 .f32) : FVec Ideal S1024x64 .f32 :=
  mulf (matmul dot_S32x1024_S32x64_S1024x64_0_0_1_1_n_n none
      (select causal (mulf (scores q k) (logistic (scores q k)))
        (broadcast S32x1024 (Scalar.ofBits .f32 0x00000000#32)))
      (means v) (constant S1024x64 .f32 0x00000000#32))
    (broadcastTo S1024x64 (gate q w) broadcasts_S1024x1_S1024x64)

/-- Zeros and ones: row `m` lies in block `j`. -/
def inBlock : FVec Ideal S32x1024 .f32 :=
  sitofp .f32 (extui 32 (cmpi .eq (iota .tc S32x1024 32 [0] iota_S32x1024_d0_w32) blockOf) natLt_1_32)

/-- Zeros and ones: the lower triangle of a 256 × 256 tile. -/
def lower : FVec Ideal S256x256 .f32 :=
  sitofp .f32 (extui 32 (cmpi .sge (iota .tc S256x256 32 [0] iota_S256x256_d0_w32)
    (iota .tc S256x256 32 [1] iota_S256x256_d1_w32)) natLt_1_32)

/-- The narrowed copy of a 1024 × 64 array. -/
def narrow (x : FVec Ideal S1024x64 .f32) : FVec Ideal S1024x64 .bf16 := truncf .bf16 x bitsLt_bf16_f32

section Tile

variable {W R : ℕ}

/-- The contraction of two arrays' first axes. -/
def firstAxes (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The scaled products of a tile's 256 queries with the first `W` keys. -/
def tileScores (q : FVec Ideal S256x64 .f32) (k : FVec Ideal ⟨2, ![W, 64]⟩ .bf16) : FVec Ideal ⟨2, ![256, W]⟩ .f32 :=
  mulf (matmul (DotDims.transposedRhs 256 64 W) none (truncf .bf16 q bitsLt_bf16_f32) k
      (constant ⟨2, ![256, W]⟩ .f32 0x00000000#32))
    (broadcast ⟨2, ![256, W]⟩ (Scalar.ofBits .f32 0x3E000000#32))

/-- The weights of a tile before the triangle is cut: the products times their logistic, kept on the chosen blocks. -/
def tileWeights (q : FVec Ideal S256x64 .f32) (k : FVec Ideal ⟨2, ![W, 64]⟩ .bf16)
    (c : FVec Ideal ⟨2, ![R, 256]⟩ .f32) (e : FVec Ideal ⟨2, ![R, W]⟩ .f32) : FVec Ideal ⟨2, ![256, W]⟩ .f32 :=
  mulf (mulf (tileScores q k) (logistic (tileScores q k)))
    (matmul (firstAxes 256 R W) none c e (constant ⟨2, ![256, W]⟩ .f32 0x00000000#32))

/-- A tile's weights times the first `W` values. -/
def tileSum (p : FVec Ideal ⟨2, ![256, W]⟩ .f32) (v : FVec Ideal ⟨2, ![W, 64]⟩ .bf16) : FVec Ideal S256x64 .f32 :=
  matmul (DotDims.plain 256 W 64) none (truncf .bf16 p bitsLt_bf16_f32) v (constant S256x64 .f32 0x00000000#32)

/-- The triangle is cut from a tile's last 256 columns. -/
def cut {P : ℕ} (hl : Shape.Slices ⟨2, ![256, W]⟩ ![0, 0] ⟨2, ![256, P]⟩) (hr : Shape.Slices ⟨2, ![256, W]⟩ ![0, P] S256x256)
    (hc : Shape.Concatenates [⟨2, ![256, P]⟩, S256x256] ⟨2, ![256, W]⟩ 1) (p : FVec Ideal ⟨2, ![256, W]⟩ .f32) :
    FVec Ideal ⟨2, ![256, W]⟩ .f32 :=
  concatenate ⟨2, ![256, W]⟩ 1 [⟨⟨2, ![256, P]⟩, extractStridedSlice ⟨2, ![256, P]⟩ ![0, 0] p hl⟩,
    ⟨S256x256, mulf (extractStridedSlice S256x256 ![0, P] p hr) lower⟩] hc

end Tile

/-- A tile's rows: the compressed part and the gated selected part. -/
def tileOut (o : ℕ) (hs : S1024x64.Slices ![o, 0] S256x64) (hg : S1024x1.Slices ![o, 0] S256x1)
    (c : FVec Ideal S1024x64 .f32) (g : FVec Ideal S1024x1 .f32) (a : FVec Ideal S256x64 .f32) : FVec Ideal S256x64 .f32 :=
  addf (extractStridedSlice S256x64 ![o, 0] c hs)
    (mulf a (broadcastTo S256x64 (extractStridedSlice S256x1 ![o, 0] g hg) broadcasts_S256x1_S256x64))

/-- The selected part of rows 0 … 255. -/
def selected0 (q k v : FVec Ideal S1024x64 .f32) : FVec Ideal S256x64 .f32 :=
  tileSum
    (mulf (tileWeights
      (extractStridedSlice S256x64 ![0, 0] q slices_S1024x64_o0_0_S256x64)
      (extractStridedSlice S256x64 ![0, 0] (narrow k) slices_S1024x64_o0_0_S256x64)
      (extractStridedSlice S8x256 ![0, 0] (chosen q k) slices_S32x1024_o0_0_S8x256)
      (extractStridedSlice S8x256 ![0, 0] inBlock slices_S32x1024_o0_0_S8x256)) lower)
    (extractStridedSlice S256x64 ![0, 0] (narrow v) slices_S1024x64_o0_0_S256x64)

/-- The selected part of rows 256 … 511. -/
def selected1 (q k v : FVec Ideal S1024x64 .f32) : FVec Ideal S256x64 .f32 :=
  tileSum
    (cut slices_S256x512_o0_0_S256x256 slices_S256x512_o0_256_S256x256 concatenates_S256x256_S256x256_S256x512_d1
      (tileWeights
        (extractStridedSlice S256x64 ![256, 0] q slices_S1024x64_o256_0_S256x64)
        (extractStridedSlice S512x64 ![0, 0] (narrow k) slices_S1024x64_o0_0_S512x64)
        (extractStridedSlice S16x256 ![0, 256] (chosen q k) slices_S32x1024_o0_256_S16x256)
        (extractStridedSlice S16x512 ![0, 0] inBlock slices_S32x1024_o0_0_S16x512)))
    (extractStridedSlice S512x64 ![0, 0] (narrow v) slices_S1024x64_o0_0_S512x64)

/-- The selected part of rows 512 … 767. -/
def selected2 (q k v : FVec Ideal S1024x64 .f32) : FVec Ideal S256x64 .f32 :=
  tileSum
    (cut slices_S256x768_o0_0_S256x512 slices_S256x768_o0_512_S256x256 concatenates_S256x512_S256x256_S256x768_d1
      (tileWeights
        (extractStridedSlice S256x64 ![512, 0] q slices_S1024x64_o512_0_S256x64)
        (extractStridedSlice S768x64 ![0, 0] (narrow k) slices_S1024x64_o0_0_S768x64)
        (extractStridedSlice S24x256 ![0, 512] (chosen q k) slices_S32x1024_o0_512_S24x256)
        (extractStridedSlice S24x768 ![0, 0] inBlock slices_S32x1024_o0_0_S24x768)))
    (extractStridedSlice S768x64 ![0, 0] (narrow v) slices_S1024x64_o0_0_S768x64)

/-- The selected part of rows 768 … 1023. -/
def selected3 (q k v : FVec Ideal S1024x64 .f32) : FVec Ideal S256x64 .f32 :=
  tileSum
    (cut slices_S256x1024_o0_0_S256x768 slices_S256x1024_o0_768_S256x256 concatenates_S256x768_S256x256_S256x1024_d1
      (tileWeights
        (extractStridedSlice S256x64 ![768, 0] q slices_S1024x64_o768_0_S256x64)
        (narrow k)
        (extractStridedSlice S32x256 ![0, 768] (chosen q k) slices_S32x1024_o0_768_S32x256)
        inBlock))
    (narrow v)

/-- The head's result: its four tiles of 256 rows. -/
def result (q k v : FVec Ideal S1024x64 .f32) (wc ws : FVec Ideal S1x64 .f32) : FVec Ideal S1024x64 .f32 :=
  concatenate S1024x64 0
    [⟨S256x64, tileOut 0 slices_S1024x64_o0_0_S256x64 slices_S1024x1_o0_0_S256x1 (compressed q k v wc) (gate q ws)
      (selected0 q k v)⟩,
     ⟨S256x64, tileOut 256 slices_S1024x64_o256_0_S256x64 slices_S1024x1_o256_0_S256x1 (compressed q k v wc) (gate q ws)
      (selected1 q k v)⟩,
     ⟨S256x64, tileOut 512 slices_S1024x64_o512_0_S256x64 slices_S1024x1_o512_0_S256x1 (compressed q k v wc) (gate q ws)
      (selected2 q k v)⟩,
     ⟨S256x64, tileOut 768 slices_S1024x64_o768_0_S256x64 slices_S1024x1_o768_0_S256x1 (compressed q k v wc) (gate q ws)
      (selected3 q k v)⟩]
    concatenates_S256x64_S256x64_S256x64_S256x64_S1024x64_d0

/-- The columns of head `h` of a batch's block. -/
def columns (h : ℕ) (hs : S1024x512.Slices ![0, h] S1024x64) (x : Vec Ideal S1x1024x8x64 .f32) : FVec Ideal S1024x64 .f32 :=
  extractStridedSlice S1024x64 ![0, h]
    (shapeCast S1024x512 (shapeCast S1024x8x64 x shapeCasts_S1x1024x8x64_S1024x8x64) shapeCasts_S1024x8x64_S1024x512) hs

/-- What the body stores for the head whose columns start at `h`. -/
def stored (h : ℕ) (hs : S1024x512.Slices ![0, h] S1024x64) (q k v : Vec Ideal S1x1024x8x64 .f32)
    (wc ws : FVec Ideal S1x64 .f32) : FVec Ideal S1x1024x1x64 .f32 :=
  shapeCast S1x1024x1x64 (result (columns h hs q) (columns h hs k) (columns h hs v) wc ws)
    shapeCasts_S1024x64_S1x1024x1x64

end Cert.KernelIdeal.Head
-- ==== Proof.Body.lean ====
module

public import proofs.«01_k».proof.Proof.Gen.KernelIdeal.Frame
public import proofs.«01_k».proof.Proof.Head

/-!
# What the body leaves in its result block

The body's stores, one for each head, are the one head's result of `Head.lean` at the head's columns.
-/

@[expose] public section

noncomputable section

namespace Cert.KernelIdeal.Body

open Idealize.ShloMosaic Idealize.SL.Sem Cert.KernelIdeal.Gen Cert.KernelIdeal.Head

set_option maxRecDepth 16384

/-- The result block is the eight heads' results, each over its own columns. -/
theorem out_eq (x0 x1 x2 : Vec Ideal S1x1024x8x64 .f32) (x3 x4 : Vec Ideal S1x64 .f32) :
    out0_5 x0 x1 x2 x3 x4 =
      let st := fun h hs => stored h hs (View.ld x0 r0_0) (View.ld x1 r0_0) (View.ld x2 r0_0) (View.ld x3 r0_1)
        (View.ld x4 r0_1)
      View.canon [⟨r0_9, st 448 slices_S1024x512_o0_448_S1024x64⟩, ⟨r0_8, st 384 slices_S1024x512_o0_384_S1024x64⟩,
        ⟨r0_7, st 320 slices_S1024x512_o0_320_S1024x64⟩, ⟨r0_6, st 256 slices_S1024x512_o0_256_S1024x64⟩,
        ⟨r0_5, st 192 slices_S1024x512_o0_192_S1024x64⟩, ⟨r0_4, st 128 slices_S1024x512_o0_128_S1024x64⟩,
        ⟨r0_3, st 64 slices_S1024x512_o0_64_S1024x64⟩, ⟨r0_2, st 0 slices_S1024x512_o0_0_S1024x64⟩] := rfl

end Cert.KernelIdeal.Body
-- ==== Proof.Rank.lean ====
/- Which of a row's scores are among its greatest: by repeated removal of the maximum (the kernel), and by a stable
   descending sort (the reference). Both are counted, and the counts agree where no two of the scores that matter tie.
   Nothing here names a program. -/
module

public import Idealize.ShloMosaic.Lib.SortFacts
public import Idealize.ShloMosaic.PureOps.Ideal

@[expose] public section

namespace Cert.Rank

open Idealize.ShloMosaic Finset

variable {n : ℕ}

/-! ## Removing the maximum -/

/-- One round: every score that equals the row's maximum becomes −∞. -/
noncomputable def strike (x : Fin n → EReal) : Fin n → EReal := fun i => if x i = univ.sup x then ⊥ else x i

/-- The distinct scores above a value. -/
noncomputable def above (x : Fin n → EReal) (v : EReal) : Finset EReal := (univ.image x).filter (v < ·)

/-- How many places come before `j` in a stable descending order. -/
noncomputable def before (x : Fin n → EReal) (j : Fin n) : Finset (Fin n) :=
  univ.filter fun i => x j < x i ∨ (x i = x j ∧ i < j)

/-- A value is among the scores above `v` when it is a score and above `v`. -/
theorem mem_above {x : Fin n → EReal} {v w : EReal} : w ∈ above x v ↔ (∃ i, x i = w) ∧ v < w := by
  simp [above]

/-- Striking the greatest out does not raise the maximum. -/
theorem sup_strike_le (x : Fin n → EReal) : univ.sup (strike x) ≤ univ.sup x := by
  refine Finset.sup_le fun i _ => ?_
  unfold strike
  split
  · exact bot_le
  · exact Finset.le_sup (f := x) (mem_univ i)

/-- Nor does doing so repeatedly. -/
theorem sup_strikes_le (m : ℕ) (x : Fin n → EReal) : univ.sup (strike^[m] x) ≤ univ.sup x := by
  induction m generalizing x with
  | zero => exact le_rfl
  | succ m ih => exact (ih (strike x)).trans (sup_strike_le x)

/-- The maximum is one of the scores. -/
theorem exists_eq_sup (x : Fin n → EReal) (j : Fin n) : ∃ i, x i = univ.sup x := by
  obtain ⟨i, _, hi⟩ := Finset.exists_mem_eq_sup univ ⟨j, mem_univ j⟩ x
  exact ⟨i, hi.symm⟩

/-- Nothing is above the maximum. -/
theorem above_sup (x : Fin n → EReal) : above x (univ.sup x) = ∅ := by
  refine Finset.eq_empty_of_forall_notMem fun w hw => ?_
  obtain ⟨⟨i, rfl⟩, h⟩ := mem_above.1 hw
  exact absurd (Finset.le_sup (f := x) (mem_univ i)) (not_le.2 h)

/-- A round takes the greatest of the values above a score that is not itself the greatest. -/
theorem above_strike (x : Fin n → EReal) (j : Fin n) (hj : x j ≠ univ.sup x) :
    above x (x j) = insert (univ.sup x) (above (strike x) (x j)) := by
  have hlt : x j < univ.sup x := lt_of_le_of_ne (Finset.le_sup (f := x) (mem_univ j)) hj
  ext w
  rw [Finset.mem_insert, mem_above, mem_above]
  constructor
  · rintro ⟨⟨i, rfl⟩, h⟩
    by_cases hi : x i = univ.sup x
    · exact Or.inl hi
    · exact Or.inr ⟨⟨i, if_neg hi⟩, h⟩
  · rintro (rfl | ⟨⟨i, rfl⟩, h⟩)
    · exact ⟨exists_eq_sup x j, hlt⟩
    · by_cases hi : x i = univ.sup x
      · rw [strike, if_pos hi] at h
        exact absurd h not_lt_bot
      · rw [strike, if_neg hi] at h ⊢
        exact ⟨⟨i, rfl⟩, h⟩

/-- Once struck out, the maximum is not among the scores above anything. -/
theorem sup_notMem_above_strike (x : Fin n → EReal) (v : EReal) : univ.sup x ∉ above (strike x) v := by
  intro hw
  obtain ⟨⟨i, hi⟩, h⟩ := mem_above.1 hw
  unfold strike at hi
  split at hi
  · exact absurd h (by rw [← hi]; exact not_lt_bot)
  · exact absurd hi ‹_›

/-- After `m` rounds a score is at least the maximum that is left exactly if at most `m` distinct scores exceed it. -/
theorem sup_strikes_le_iff (m : ℕ) (x : Fin n → EReal) (j : Fin n) :
    univ.sup (strike^[m] x) ≤ x j ↔ (above x (x j)).card ≤ m := by
  induction m generalizing x with
  | zero =>
    rw [Nat.le_zero, Finset.card_eq_zero]
    constructor
    · intro h
      have : x j = univ.sup x := le_antisymm (Finset.le_sup (f := x) (mem_univ j)) h
      rw [this, above_sup]
    · intro h
      by_contra hlt
      have hm : univ.sup x ∈ above x (x j) := mem_above.2 ⟨exists_eq_sup x j, not_le.1 hlt⟩
      rw [h] at hm
      exact absurd hm (Finset.notMem_empty _)
  | succ m ih =>
    by_cases hj : x j = univ.sup x
    · rw [hj, above_sup]
      exact ⟨fun _ => by simp, fun _ => sup_strikes_le _ _⟩
    · have hs : strike x j = x j := if_neg hj
      rw [above_strike x j hj, Finset.card_insert_of_notMem (sup_notMem_above_strike x _), Nat.add_le_add_iff_right,
        ← hs, ← ih (strike x), Function.iterate_succ_apply]

/-- Among causal scores (places up to `q`; the others are −∞) the two counts say the same: either there are at most
    eight causal places, or the causal scores are distinct. -/
theorem selected_iff (x : Fin n → EReal) (q : ℕ) (j : Fin n) (hj : j.val ≤ q) (hbot : ∀ i : Fin n, q < i.val → x i = ⊥)
    (h : q < 8 ∨ ∀ a b : Fin n, a < b → b.val ≤ q → x a ≠ x b) :
    univ.sup (strike^[7] x) ≤ x j ↔ (before x j).card < 8 := by
  rw [sup_strikes_le_iff, ← Nat.lt_succ_iff]
  have himg : above x (x j) = (univ.filter fun i => x j < x i).image x := by
    ext w
    rw [mem_above, Finset.mem_image]
    constructor
    · rintro ⟨⟨i, rfl⟩, hw⟩
      exact ⟨i, Finset.mem_filter.2 ⟨mem_univ i, hw⟩, rfl⟩
    · rintro ⟨i, hi, rfl⟩
      exact ⟨⟨i, rfl⟩, (Finset.mem_filter.1 hi).2⟩
  have hle : ∀ i : Fin n, x j < x i → i.val ≤ q := fun i hi => by
    by_contra hq
    rw [hbot i (not_le.1 hq)] at hi
    exact absurd hi not_lt_bot
  have hsub : (univ.filter fun i => x j < x i) ⊆ before x j := fun i hi =>
    Finset.mem_filter.2 ⟨mem_univ i, Or.inl (Finset.mem_filter.1 hi).2⟩
  rcases h with h | h
  · have hb : (before x j).card < 8 := by
      have hs : (before x j).image Fin.val ⊆ (Finset.range (q + 1)).erase j.val := by
        intro v hv
        obtain ⟨i, hi, rfl⟩ := Finset.mem_image.1 hv
        rw [Finset.mem_erase, Finset.mem_range]
        rcases (Finset.mem_filter.1 hi).2 with hlt | ⟨_, hlt⟩
        · exact ⟨fun he => absurd (Fin.ext he ▸ hlt) (lt_irrefl _), Nat.lt_succ_of_le (hle i hlt)⟩
        · have : i.val < j.val := hlt
          exact ⟨by omega, by omega⟩
      have hc := Finset.card_le_card hs
      rw [Finset.card_image_of_injective _ Fin.val_injective, Finset.card_erase_of_mem (Finset.mem_range.2 (by omega)),
        Finset.card_range] at hc
      omega
    refine ⟨fun _ => hb, fun _ => lt_of_le_of_lt ?_ hb⟩
    rw [himg]
    exact Finset.card_image_le.trans (Finset.card_le_card hsub)
  · have hb : before x j = univ.filter fun i => x j < x i := by
      refine Finset.Subset.antisymm (fun i hi => ?_) hsub
      rcases (Finset.mem_filter.1 hi).2 with hlt | ⟨he, hlt⟩
      · exact Finset.mem_filter.2 ⟨mem_univ i, hlt⟩
      · exact absurd he (h i j hlt hj)
    have hinj : Set.InjOn x (univ.filter fun i => x j < x i : Finset (Fin n)) := by
      intro a ha b hb' hab
      have ha' := hle a (Finset.mem_filter.1 (Finset.mem_coe.1 ha)).2
      have hb'' := hle b (Finset.mem_filter.1 (Finset.mem_coe.1 hb')).2
      rcases lt_trichotomy a b with hlt | he | hlt
      · exact absurd hab (h a b hlt hb'')
      · exact he
      · exact absurd hab.symm (h b a hlt ha')
    rw [himg, hb, Finset.card_image_of_injOn hinj]

/-! ## A stable descending sort -/

/-- The order a stable descending sort puts places in: the greater score first, of equal scores the earlier place. -/
def Precedes (x : Fin n → EReal) (a b : Fin n) : Prop := x b < x a ∨ (x a = x b ∧ a < b)

/-- Of two places only one precedes the other. -/
theorem Precedes.asymm {x : Fin n → EReal} {a b : Fin n} (h : Precedes x a b) : ¬Precedes x b a := by
  rintro (h' | ⟨h1, h2⟩) <;> rcases h with h | ⟨h3, h4⟩
  · exact absurd h (lt_asymm h')
  · exact absurd h3 (ne_of_lt h')
  · exact absurd h1 (ne_of_lt h)
  · exact absurd h2 (lt_asymm h4)

/-- Inserting a place into a sorted list of later places keeps it sorted. -/
theorem pairwise_insertBefore (x : Fin n → EReal) (a : Fin n) (l : List (Fin n)) (ha : ∀ b ∈ l, a < b)
    (hl : l.Pairwise (Precedes x)) :
    (insertBefore (fun k k' => decide (x k' < x k)) a l).Pairwise (Precedes x) := by
  induction l with
  | nil => exact List.pairwise_singleton _ _
  | cons b l ih =>
    rw [List.pairwise_cons] at hl
    unfold insertBefore
    split
    · rename_i hba
      have hba : x a < x b := of_decide_eq_true hba
      refine List.pairwise_cons.2 ⟨fun c hc => ?_, ih (fun c hc => ha c (List.mem_cons_of_mem _ hc)) hl.2⟩
      rcases List.mem_cons.1 ((perm_insertBefore _ a l).mem_iff.1 hc) with rfl | hc
      · exact Or.inl hba
      · exact hl.1 c hc
    · rename_i hba
      have hba : x b ≤ x a := not_lt.1 fun h => hba (decide_eq_true h)
      refine List.pairwise_cons.2 ⟨fun c hc => ?_, List.pairwise_cons.2 hl⟩
      have hac := ha c hc
      have hca : x c ≤ x a := by
        rcases List.mem_cons.1 hc with rfl | hc
        · exact hba
        · rcases hl.1 c hc with h | ⟨h, _⟩
          · exact h.le.trans hba
          · exact h ▸ hba
      rcases hca.lt_or_eq with h | h
      · exact Or.inl h
      · exact Or.inr ⟨h.symm, hac⟩

/-- A stable descending sort leaves the places in order of precedence. -/
theorem pairwise_stableSort (x : Fin n → EReal) (l : List (Fin n)) (hl : l.Pairwise (· < ·)) :
    (stableSort (fun k k' => decide (x k' < x k)) l).Pairwise (Precedes x) := by
  induction l with
  | nil => exact List.Pairwise.nil
  | cons a l ih =>
    rw [List.pairwise_cons] at hl
    unfold stableSort
    exact pairwise_insertBefore x a _ (fun b hb => hl.1 b ((perm_stableSort _ l).mem_iff.1 hb)) (ih hl.2)

/-- An earlier place of the sorted line precedes a later one. -/
theorem precedes_sortedFrom (x : Fin n → EReal) {s t : Fin n} (hst : s < t) :
    Precedes x (sortedFrom (fun k k' => decide (x k' < x k)) s) (sortedFrom (fun k k' => decide (x k' < x k)) t) :=
  have h : (sortPositions n fun k k' => decide (x k' < x k)).Pairwise (Precedes x) :=
    pairwise_stableSort x (List.finRange n) (List.pairwise_lt_finRange n)
  List.pairwise_iff_get.1 h _ _ (Fin.lt_def.2 (by exact hst))

/-- A place is among the first `K` of the sort exactly if fewer than `K` places come before it. -/
theorem mem_first_iff (x : Fin n → EReal) (K : ℕ) (j : Fin n) :
    (∃ s : Fin n, s.val < K ∧ sortedFrom (fun k k' => decide (x k' < x k)) s = j) ↔ (before x j).card < K := by
  have key : ∀ s : Fin n, (before x (sortedFrom (fun k k' => decide (x k' < x k)) s)).card = s.val := by
    intro s
    have hset : before x (sortedFrom (fun k k' => decide (x k' < x k)) s)
        = (Finset.Iio s).image (sortedFrom fun k k' => decide (x k' < x k)) := by
      ext i
      obtain ⟨t, rfl⟩ := sortedFrom_surjective (fun k k' => decide (x k' < x k)) i
      rw [Finset.mem_image]
      constructor
      · intro hi
        have hp : Precedes x (sortedFrom (fun k k' => decide (x k' < x k)) t)
            (sortedFrom (fun k k' => decide (x k' < x k)) s) := (Finset.mem_filter.1 hi).2
        refine ⟨t, Finset.mem_Iio.2 ?_, rfl⟩
        rcases lt_trichotomy t s with h | h | h
        · exact h
        · subst h; exact absurd hp hp.asymm
        · exact absurd hp (precedes_sortedFrom x h).asymm
      · rintro ⟨u, hu, he⟩
        rw [← he]
        exact Finset.mem_filter.2 ⟨mem_univ _, precedes_sortedFrom x (Finset.mem_Iio.1 hu)⟩
    rw [hset, Finset.card_image_of_injective _ (sortedFrom_injective _), Fin.card_Iio]
  constructor
  · rintro ⟨s, hs, rfl⟩
    rw [key]; exact hs
  · intro h
    obtain ⟨s, rfl⟩ := sortedFrom_surjective (fun k k' => decide (x k' < x k)) j
    rw [key] at h
    exact ⟨s, h, rfl⟩

end Cert.Rank

end
-- ==== Proof.Words.lean ====
module

public import Idealize.ShloMosaic.Lib.WordCmp
public import Idealize.ShloMosaic.PureOps.Ideal

/-!
# Words and truth values

What comparisons of small numbers' words give, and truth values read as numbers.
-/

@[expose] public section

noncomputable section

namespace Cert.Words

open Idealize.ShloMosaic

/-- The comparison `≥` of two small numbers' words. -/
theorem cmpi_sge_ofNat {a b : ℕ} (ha : a < 1024) (hb : b < 1024) :
    IntOp.cmpi .sge (BitVec.ofNat 32 a) (BitVec.ofNat 32 b) = if b ≤ a then 1#1 else 0#1 := by
  rw [WordCmp.cmpi_sge_eq, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  by_cases h : b ≤ a <;> simp [h]

/-- The equality of two small numbers' words. -/
theorem cmpi_eq_ofNat {a b : ℕ} (ha : a < 1024) (hb : b < 1024) :
    IntOp.cmpi .eq (BitVec.ofNat 32 a) (BitVec.ofNat 32 b) = if a = b then 1#1 else 0#1 := by
  rw [WordCmp.cmpi_eq_eq_toNat, BitVec.toNat_ofNat, BitVec.toNat_ofNat, Nat.mod_eq_of_lt (by omega), Nat.mod_eq_of_lt (by omega)]
  by_cases h : a = b <;> simp [h]

/-- A truth value read as a number. -/
theorem sitofp_bit (p : Prop) [Decidable p] :
    FloatOps.sitofp (F := Ideal) .f32 (BitVec.setWidth 32 (if p then 1#1 else 0#1)) = if p then 1 else 0 := by
  show (((BitVec.setWidth 32 (if p then 1#1 else 0#1)).toInt : ℝ) : EReal) = _
  by_cases h : p <;> simp [h]

/-- The conjunction of two truth values' bits. -/
theorem andi_bit (p q : Prop) [Decidable p] [Decidable q] :
    IntOp.andi (BitVec.ofBool (decide p)) (if q then 1#1 else 0#1) = if p ∧ q then 1#1 else 0#1 := by
  by_cases hp : p <;> by_cases hq : q <;> simp [hp, hq, IntOp.andi]

/-- The choice by a truth value's bit. -/
theorem select_bit {α : Type} (p : Prop) [Decidable p] (a b : α) :
    Scalar.select (if p then 1#1 else 0#1) a b = if p then a else b := by
  by_cases h : p <;> simp [h, Scalar.select]

/-- A block number `t` met in the ranking, struck out when it lies past the row's block `m`. -/
theorem struck_word (t m : Fin 32) :
    Scalar.select (IntOp.cmpi .sgt (BitVec.ofNat 32 t.val) (BitVec.ofNat 32 m.val)) 4294967295#32 (BitVec.ofNat 32 t.val)
      = if t.val ≤ m.val then BitVec.ofNat 32 t.val else 4294967295#32 := by
  revert t m
  decide +kernel

/-- Whether that block number, if it was not struck out, is `j`. -/
theorem pick_word (t m j : Fin 32) (kept : BitVec 32)
    (hk : kept = if t.val ≤ m.val then BitVec.ofNat 32 t.val else 4294967295#32) :
    IntOp.andi (IntOp.cmpi .eq (Scalar.select (IntOp.cmpi .sge kept 0#32) kept 0#32) (BitVec.ofNat 32 j.val))
      (IntOp.cmpi .sge kept 0#32) = if t.val ≤ m.val ∧ t = j then 1#1 else 0#1 := by
  by_cases hm : t.val ≤ m.val
  · rw [if_pos hm] at hk
    have h0 : IntOp.cmpi .sge kept 0#32 = 1#1 := by
      rw [hk]
      exact (cmpi_sge_ofNat (b := 0) (by omega) (by omega)).trans (if_pos (Nat.zero_le _))
    rw [h0, hk]
    show IntOp.andi (IntOp.cmpi .eq (BitVec.ofNat 32 t.val) _) _ = _
    rw [cmpi_eq_ofNat (by omega) (by omega)]
    by_cases hj : t = j <;> simp [hm, hj, Fin.ext_iff, IntOp.andi] <;> simp_all [Fin.ext_iff]
  · rw [if_neg hm] at hk
    have h0 : IntOp.cmpi .sge kept 0#32 = 0#1 := by
      rw [hk]
      decide
    rw [h0, if_neg (fun h => hm h.1)]
    simp [IntOp.andi]

/-- Disjunction of bits does not depend on the order. -/
instance : Std.Commutative (IntOp.ori : BitVec 1 → BitVec 1 → BitVec 1) := ⟨BitVec.or_comm⟩

/-- Nor on the grouping. -/
instance : Std.Associative (IntOp.ori : BitVec 1 → BitVec 1 → BitVec 1) := ⟨BitVec.or_assoc⟩

/-- The disjunction of the bits of truth values. -/
theorem fold_ori {n : ℕ} (p : Fin n → Prop) [DecidablePred p] (T : Finset (Fin n)) :
    T.fold (IntOp.ori : BitVec 1 → BitVec 1 → BitVec 1) 0#1 (fun s => if p s then 1#1 else 0#1) = if ∃ s ∈ T, p s then 1#1 else 0#1 := by
  induction T using Finset.induction_on with
  | empty => simp
  | insert a T ha ih =>
    rw [Finset.fold_insert ha, ih]
    by_cases hp : p a <;> by_cases hq : ∃ s ∈ T, p s <;> simp [hp, hq, IntOp.ori]

end Cert.Words
-- ==== Proof.HeadRead.lean ====
module

public import proofs.«01_k».proof.Proof.Head
public import proofs.«01_k».proof.Proof.Rank
public import Idealize.ShloMosaic.Lib.Pointwise
public import proofs.«01_k».proof.Proof.Words
public import Idealize.ShloMosaic.Lib.MatmulPlain

/-!
# One head's operations at an index

Each operation of `Head.lean`, read at one element.
-/

@[expose] public section

noncomputable section

namespace Cert.KernelIdeal.Head

open Idealize.ShloMosaic Idealize.SL.Sem Cert.KernelIdeal.Gen Cert.Words

/-- The contraction of two arrays' first axes, at an index. -/
theorem matmul_firstAxes_apply {M K N : ℕ} (a : FVec Ideal ⟨2, ![K, M]⟩ .f32) (b : FVec Ideal ⟨2, ![K, N]⟩ .f32)
    (acc : FVec Ideal ⟨2, ![M, N]⟩ .f32) (r : Fin M) (c : Fin N) :
    Ideal.matmul (firstAxes M K N) a b acc (ix2 r c) = acc (ix2 r c) + ∑ j : Fin K, a (ix2 j r) * b (ix2 j c) := by
  refine Ideal.matmul_apply₁_of (firstAxes M K N) (a := 0) rfl (K := K) rfl a b acc (ix2 r c)
    (fun j => ix2 j r) (fun j => ix2 j c) ?_ ?_
  · intro j; funext i; fin_cases i <;> rfl
  · intro j; funext i; fin_cases i <;> rfl

/-- A mean is the sum of the block's 32 rows over 32. -/
theorem means_apply (k : FVec Ideal S1024x64 .f32) (j : Fin 32) (d : Fin 64) :
    means k (ix2 j d)
      = Ideal.div (∑ r : Fin 32, k (ix2 ⟨j.val * 32 + r.val, by omega⟩ d)) (Ideal.ofBits .f32 0x42000000#32) := by
  pointwise [means]

/-- A gate. -/
theorem gate_apply (q : FVec Ideal S1024x64 .f32) (w : FVec Ideal S1x64 .f32) (n : Fin 1024) (u : Fin 1) :
    gate q w (ix2 n u) = Ideal.logistic (∑ d : Fin 64, q (ix2 n d) * w (ix2 0 d)) := by
  pointwise [gate]

/-- A block's score. -/
theorem scores_apply (q k : FVec Ideal S1024x64 .f32) (j : Fin 32) (n : Fin 1024) :
    scores q k (ix2 j n) = (∑ d : Fin 64, means k (ix2 j d) * q (ix2 n d)) * Ideal.ofBits .f32 0x3E000000#32 := by
  pointwise [scores, dot_S32x64_S1024x64_S32x1024_1_1_0_0_n_n]

/-- The block a row lies in. -/
theorem blockOf_apply (j : Fin 32) (n : Fin 1024) : blockOf (ix2 j n) = BitVec.ofNat 32 (n.val / 32) := by
  pointwise [blockOf]
  clear j
  revert n
  decide +kernel

/-- Whether a block starts no later than a row. -/
theorem causal_apply (j : Fin 32) (n : Fin 1024) :
    causal (ix2 j n) = if j.val * 32 ≤ n.val then 1#1 else 0#1 := by
  pointwise [causal, blockOf_apply]
  exact (cmpi_sge_ofNat (by omega) (by omega)).trans (if_congr (by omega) rfl rfl)

/-- The same as a truth value. -/
theorem causal_iff (j : Fin 32) (n : Fin 1024) : causal (ix2 j n) = 1#1 ↔ j.val * 32 ≤ n.val := by
  rw [causal_apply]
  by_cases h : j.val * 32 ≤ n.val <;> simp [h]

/-- A masked score. -/
theorem masked_apply (q k : FVec Ideal S1024x64 .f32) (j : Fin 32) (n : Fin 1024) :
    masked q k (ix2 j n) = if j.val * 32 ≤ n.val then scores q k (ix2 j n) else ⊥ := by
  pointwise [masked]
  rw [Scalar.select_def, IdealRules.named_const.ideal_named_scalar _ _ _ _ rfl]
  exact if_congr (causal_iff j n) rfl rfl

/-- The pattern of minus infinity. -/
theorem neg_inf : Ideal.ofBits .f32 0xFF800000#32 = ⊥ := rfl

/-- A row's greatest score. -/
theorem colMax_apply (x : FVec Ideal S32x1024 .f32) (j : Fin 32) (n : Fin 1024) :
    colMax x (ix2 j n) = Finset.univ.sup fun i : Fin 32 => x (ix2 i n) := by
  pointwise [colMax]
  rw [neg_inf]
  rfl

/-- One round strikes a row's greatest scores out. -/
theorem round_apply (x : FVec Ideal S32x1024 .f32) (n : Fin 1024) :
    (fun j => round x (ix2 j n)) = Cert.Rank.strike fun j => x (ix2 j n) := by
  funext j
  pointwise [round, colMax_apply, Cert.Rank.strike]
  rw [neg_inf]

/-- The seven rounds. -/
theorem rounds_apply (x : FVec Ideal S32x1024 .f32) (n : Fin 1024) :
    (fun j => rounds x (ix2 j n)) = Cert.Rank.strike^[7] fun j => x (ix2 j n) := by
  unfold rounds
  rw [round_apply, round_apply, round_apply, round_apply, round_apply, round_apply, round_apply]
  rfl

/-- The mark of a chosen block. -/
theorem chosen_apply (q k : FVec Ideal S1024x64 .f32) (j : Fin 32) (n : Fin 1024) :
    chosen q k (ix2 j n) = if (Finset.univ.sup (Cert.Rank.strike^[7] fun i => masked q k (ix2 i n)) ≤ masked q k (ix2 j n)) ∧ j.val * 32 ≤ n.val then 1 else 0 := by
  rw [← rounds_apply, ← sitofp_bit, ← andi_bit, ← causal_apply, ← colMax_apply _ j]
  pointwise [chosen]

/-- The triangle of keys no later than the row. -/
theorem lower_apply (r c : Fin 256) : lower (ix2 r c) = if c.val ≤ r.val then 1 else 0 := by
  pointwise [lower]
  rw [cmpi_sge_ofNat (by omega) (by omega), sitofp_bit]

/-- Whether a key lies in a block. -/
theorem inBlock_apply (j : Fin 32) (m : Fin 1024) : inBlock (ix2 j m) = if j.val = m.val / 32 then 1 else 0 := by
  pointwise [inBlock, blockOf_apply]
  rw [cmpi_eq_ofNat (by omega) (by omega), sitofp_bit]

/-- A tile's scaled products. -/
theorem tileScores_apply {W} (q : FVec Ideal S256x64 .f32) (k : FVec Ideal ⟨2, ![W, 64]⟩ .bf16) (r : Fin 256) (m : Fin W) :
    tileScores q k (ix2 r m) = (∑ d : Fin 64, q (ix2 r d) * k (ix2 m d)) * Ideal.ofBits .f32 0x3E000000#32 := by
  have h := Ideal.matmul_transposedRhs_apply none (truncf .bf16 q bitsLt_bf16_f32) k
    (constant (F := Ideal) ⟨2, ![256, W]⟩ .f32 0x00000000#32) r m
  refine (congrArg (· * Ideal.ofBits .f32 0x3E000000#32) h).trans ?_
  pointwise []
  rfl

/-- A tile's weights. -/
theorem tileWeights_apply {W R} (q : FVec Ideal S256x64 .f32) (k : FVec Ideal ⟨2, ![W, 64]⟩ .bf16)
    (c : FVec Ideal ⟨2, ![R, 256]⟩ .f32) (e : FVec Ideal ⟨2, ![R, W]⟩ .f32) (r : Fin 256) (m : Fin W) :
    tileWeights q k c e (ix2 r m)
      = tileScores q k (ix2 r m) * Ideal.logistic (tileScores q k (ix2 r m)) * ∑ j : Fin R, c (ix2 j r) * e (ix2 j m) := by
  have h := matmul_firstAxes_apply c e (constant (F := Ideal) ⟨2, ![256, W]⟩ .f32 0x00000000#32) r m
  refine (congrArg (tileScores q k (ix2 r m) * Ideal.logistic (tileScores q k (ix2 r m)) * ·) h).trans ?_
  pointwise []

/-- A tile's weighted sum of values. -/
theorem tileSum_apply {W} (p : FVec Ideal ⟨2, ![256, W]⟩ .f32) (v : FVec Ideal ⟨2, ![W, 64]⟩ .bf16) (r : Fin 256) (d : Fin 64) :
    tileSum p v (ix2 r d) = ∑ m : Fin W, p (ix2 r m) * v (ix2 m d) := by
  have h := Ideal.matmul_plain_apply none (truncf .bf16 p bitsLt_bf16_f32) v
    (constant (F := Ideal) S256x64 .f32 0x00000000#32) r d
  refine Eq.trans h ?_
  pointwise []
  rfl

/-- A tile's weights with the triangle put on its last columns. -/
theorem cut_apply {W P : ℕ} (hl : Shape.Slices ⟨2, ![256, W]⟩ ![0, 0] ⟨2, ![256, P]⟩) (hr : Shape.Slices ⟨2, ![256, W]⟩ ![0, P] S256x256)
    (hc : Shape.Concatenates [⟨2, ![256, P]⟩, S256x256] ⟨2, ![256, W]⟩ 1) (p : FVec Ideal ⟨2, ![256, W]⟩ .f32) (r : Fin 256) (m : Fin W) :
    cut hl hr hc p (ix2 r m) = if m.val ≤ P + r.val then p (ix2 r m) else 0 := by
  have e : cut hl hr hc p (ix2 r m) = if m.val < P then p (ix2 r m)
      else p (ix2 r m) * if m.val - P ≤ r.val then 1 else 0 := by
    by_cases h : m.val < P
    · rw [if_pos h]
      refine (concatenate_pair_apply_left 1 _ _ hc (ix2 r m) rfl (ix2 r ⟨m.val, h⟩) ?_).trans ?_
      · intro b; fin_cases b <;> rfl
      · refine congrArg p (funext fun b => ?_)
        fin_cases b <;> exact Fin.ext (Nat.zero_add _)
    · have hm : m.val - P < 256 := by
        have : P + 256 = W := hc.size_axis
        omega
      rw [if_neg h]
      refine (concatenate_pair_apply_right 1 _ _ hc (ix2 r m) rfl rfl (ix2 r ⟨m.val - P, hm⟩) ?_ ?_).trans ?_
      · intro b hb; fin_cases b
        · rfl
        · exact absurd rfl hb
      · show m.val - P + P = m.val
        omega
      · refine congrArg₂ (· * ·) (congrArg p (funext fun b => ?_)) (lower_apply r ⟨m.val - P, hm⟩)
        fin_cases b
        · exact Fin.ext (Nat.zero_add _)
        · refine Fin.ext ?_
          show P + (m.val - P) = m.val
          omega
  rw [e]
  split_ifs <;> first | rfl | omega | simp

/-- The gated compressed part. -/
theorem compressed_apply (q k v : FVec Ideal S1024x64 .f32) (w : FVec Ideal S1x64 .f32) (n : Fin 1024) (d : Fin 64) :
    compressed q k v w (ix2 n d) = (∑ j : Fin 32, (if j.val * 32 ≤ n.val then scores q k (ix2 j n) * Ideal.logistic (scores q k (ix2 j n)) else 0) * means v (ix2 j d)) * gate q w (ix2 n 0) := by
  pointwise [compressed, dot_S32x1024_S32x64_S1024x64_0_0_1_1_n_n]
  refine congrArg (· * _) (Finset.sum_congr rfl fun j _ => ?_)
  rw [Scalar.select_def]
  refine (if_congr (causal_iff j n) rfl rfl).trans ?_
  split_ifs
  · rfl
  · rw [zero_mul]

/-- A tile's result. -/
theorem tileOut_apply  (o : ℕ) (hs : S1024x64.Slices ![o, 0] S256x64) (hg : S1024x1.Slices ![o, 0] S256x1)
    (c : FVec Ideal S1024x64 .f32) (g : FVec Ideal S1024x1 .f32) (a : FVec Ideal S256x64 .f32) (r : Fin 256) (d : Fin 64) (h : o + r.val < 1024) :
    tileOut o hs hg c g a (ix2 r d) = c (ix2 ⟨o + r.val, h⟩ d) + a (ix2 r d) * g (ix2 ⟨o + r.val, h⟩ 0) := by
  pointwise [tileOut]

/-- The columns of a head. -/
theorem columns_apply (h : Fin 8) (hs : S1024x512.Slices ![0, 64*h.val] S1024x64) (x : Vec Ideal S1x1024x8x64 .f32) (n : Fin 1024) (d : Fin 64) :
    columns (64*h.val) hs x (ix2 n d) = x (ix4 0 n h d) := by
  pointwise [columns]

end Cert.KernelIdeal.Head
-- ==== Proof.Spec.lean ====
module

public import proofs.«01_k».proof.Proof.Rank
public import Idealize.ShloMosaic.PureOps.Ideal

/-!
# What is computed

The mathematics of one batch and one head, over the extended reals: `q`, `k` and `v` are the head's 1024 rows of 64
numbers, `wc` and `ws` the weights of the two gates. The rows fall into 32 blocks of 32 rows.
-/

@[expose] public section

noncomputable section

namespace Cert.Spec

open Idealize.ShloMosaic

variable (q k v : Fin 1024 → Fin 64 → EReal) (wc ws w : Fin 64 → EReal)

/-- The gate of row `n`. -/
def gate (n : Fin 1024) : EReal := Ideal.logistic (∑ d : Fin 64, q n d * w d)

/-- The mean of block `j`. -/
def mean (j : Fin 32) (d : Fin 64) : EReal :=
  Ideal.div (∑ r : Fin 32, k ⟨j.val * 32 + r.val, by omega⟩ d) (Ideal.ofBits .f32 0x42000000#32)

/-- The score of block `j` for row `n`. -/
def score (n : Fin 1024) (j : Fin 32) : EReal :=
  (∑ d : Fin 64, mean k j d * q n d) * Ideal.ofBits .f32 0x3E000000#32

/-- The scores of row `n`, with −∞ at the blocks which start after the row. -/
def row (n : Fin 1024) (j : Fin 32) : EReal := if j.val * 32 ≤ n.val then score q k n j else ⊥

/-- Row `n` looks at block `j`: it starts no later than the row, and fewer than 8 blocks are ahead of it. -/
abbrev Picks (n : Fin 1024) (j : Fin 32) : Prop := (Cert.Rank.before (row q k n) j).card < 8 ∧ j.val * 32 ≤ n.val

/-- `x` times its logistic. -/
def silu (x : EReal) : EReal := x * Ideal.logistic x

/-- The compressed part, before its gate. -/
def compressed (n : Fin 1024) (d : Fin 64) : EReal :=
  ∑ j : Fin 32, (if j.val * 32 ≤ n.val then silu (score q k n j) else 0) * mean v j d

/-- The weight of key `m` for row `n`. -/
def weight (n m : Fin 1024) : EReal := silu ((∑ d : Fin 64, q n d * k m d) * Ideal.ofBits .f32 0x3E000000#32)

/-- The block row `m` lies in. -/
def block (m : Fin 1024) : Fin 32 := ⟨m.val / 32, by omega⟩

/-- The weight of key `m` for row `n`, kept where the row looks at the key's block and the key is no later. -/
def kept (n m : Fin 1024) : EReal := if m.val ≤ n.val ∧ Picks q k n (block m) then weight q k n m else 0

/-- The selected part, before its gate. -/
def selected (n : Fin 1024) (d : Fin 64) : EReal := ∑ m : Fin 1024, kept q k n m * v m d

/-- The result. -/
def result (n : Fin 1024) (d : Fin 64) : EReal :=
  compressed q k v n d * gate q wc n + selected q k v n d * gate q ws n

/-- From row 256 on, no two blocks which start no later than the row have the same score. -/
def Distinct : Prop :=
  ∀ (n : Fin 1024) (a b : Fin 32), 256 ≤ n.val → a < b → b.val * 32 ≤ n.val → score q k n a ≠ score q k n b

variable {q k}

/-- Seven rounds of striking out the largest scores leave a largest score; the blocks no smaller than it are the picked
    ones. -/
theorem struck_iff (h : Distinct q k) (n : Fin 1024) (j : Fin 32) :
    (Finset.univ.sup (Cert.Rank.strike^[7] (row q k n)) ≤ row q k n j ∧ j.val * 32 ≤ n.val) ↔ Picks q k n j := by
  refine and_congr_left fun hj => Cert.Rank.selected_iff (row q k n) (n.val / 32) j (by omega) (fun i hi => ?_) ?_
  · exact if_neg (by omega)
  · by_cases hn : n.val < 256
    · exact Or.inl (by omega)
    · refine Or.inr fun a b hab hb => ?_
      have hab' : a.val < b.val := hab
      rw [row, row, if_pos (by omega), if_pos (by omega)]
      exact h n a b (by omega) hab (by omega)

end Cert.Spec
-- ==== Proof.HeadValue.lean ====
module

public import proofs.«01_k».proof.Proof.HeadRead
public import proofs.«01_k».proof.Proof.Spec

/-!
# The value of one head of the kernel

The one head's operations compute the result of `Spec.lean`.
-/

@[expose] public section

noncomputable section

namespace Cert.KernelIdeal.Head

open Idealize.ShloMosaic Idealize.SL.Sem Cert.KernelIdeal.Gen

/-- A 1024 × 64 array as rows of numbers. -/
def rows {φ : FTy} (x : FVec Ideal S1024x64 φ) (n : Fin 1024) (d : Fin 64) : EReal := x (ix2 n d)

/-- The gate's weights as numbers. -/
def weights (w : FVec Ideal S1x64 .f32) (d : Fin 64) : EReal := w (ix2 0 d)

/-- A gate. -/
theorem gate_eq (q : FVec Ideal S1024x64 .f32) (w : FVec Ideal S1x64 .f32) (n : Fin 1024) (u : Fin 1) :
    gate q w (ix2 n u) = Cert.Spec.gate (rows q) (weights w) n := gate_apply q w n u

/-- The block means. -/
theorem means_eq (k : FVec Ideal S1024x64 .f32) (j : Fin 32) (d : Fin 64) :
    means k (ix2 j d) = Cert.Spec.mean (rows k) j d := means_apply k j d

/-- The block scores. -/
theorem scores_eq (q k : FVec Ideal S1024x64 .f32) (j : Fin 32) (n : Fin 1024) :
    scores q k (ix2 j n) = Cert.Spec.score (rows q) (rows k) n j := by
  rw [scores_apply, Cert.Spec.score]
  simp only [means_eq]
  rfl

/-- The masked block scores. -/
theorem masked_eq (q k : FVec Ideal S1024x64 .f32) (j : Fin 32) (n : Fin 1024) :
    masked q k (ix2 j n) = Cert.Spec.row (rows q) (rows k) n j := by
  rw [masked_apply, scores_eq, Cert.Spec.row]

/-- The gated compressed part. -/
theorem compressed_eq (q k v : FVec Ideal S1024x64 .f32) (w : FVec Ideal S1x64 .f32) (n : Fin 1024) (d : Fin 64) :
    compressed q k v w (ix2 n d)
      = Cert.Spec.compressed (rows q) (rows k) (rows v) n d * Cert.Spec.gate (rows q) (weights w) n := by
  rw [compressed_apply, gate_eq]
  simp only [scores_eq, means_eq]
  rfl

variable {q k : FVec Ideal S1024x64 .f32} (h : Cert.Spec.Distinct (rows q) (rows k))

include h

/-- The chosen blocks are the picked ones. -/
theorem chosen_eq (j : Fin 32) (n : Fin 1024) :
    chosen q k (ix2 j n) = if Cert.Spec.Picks (rows q) (rows k) n j then 1 else 0 := by
  rw [chosen_apply]
  simp only [masked_eq]
  exact if_congr (Cert.Spec.struck_iff h n j) rfl rfl

/-- A tile's sum: rows `o` … `o + 255`, against the first `W = o + 256` keys, which fill `R` blocks. -/
theorem tileSum_eq {o W R : ℕ} (hW : o + 256 = W) (hR : R * 32 = W) (hle : W ≤ 1024) (v : FVec Ideal S1024x64 .f32)
    {qt : FVec Ideal S256x64 .f32} {kt vt : FVec Ideal ⟨2, ![W, 64]⟩ .bf16} {c : FVec Ideal ⟨2, ![R, 256]⟩ .f32}
    {e : FVec Ideal ⟨2, ![R, W]⟩ .f32} {p : FVec Ideal ⟨2, ![256, W]⟩ .f32}
    (hq : ∀ (r : Fin 256) d, qt (ix2 r d) = q (ix2 ⟨o + r.val, by omega⟩ d))
    (hk : ∀ (m : Fin W) d, kt (ix2 m d) = k (ix2 (m.castLE hle) d))
    (hv : ∀ (m : Fin W) d, vt (ix2 m d) = v (ix2 (m.castLE hle) d))
    (hc : ∀ (j : Fin R) (r : Fin 256), c (ix2 j r) = chosen q k (ix2 ⟨j.val, by omega⟩ ⟨o + r.val, by omega⟩))
    (he : ∀ (j : Fin R) (m : Fin W), e (ix2 j m) = inBlock (ix2 ⟨j.val, by omega⟩ (m.castLE hle)))
    (hp : ∀ (r : Fin 256) (m : Fin W), p (ix2 r m) = if m.val ≤ o + r.val then tileWeights qt kt c e (ix2 r m) else 0)
    (r : Fin 256) (d : Fin 64) :
    tileSum p vt (ix2 r d) = Cert.Spec.selected (rows q) (rows k) (rows v) ⟨o + r.val, by omega⟩ d := by
  have hkept : ∀ m : Fin W, p (ix2 r m) = Cert.Spec.kept (rows q) (rows k) ⟨o + r.val, by omega⟩ (m.castLE hle) := by
    intro m
    have hj : m.val / 32 < R := by omega
    have hs : (∑ j : Fin R, c (ix2 j r) * e (ix2 j m))
        = if Cert.Spec.Picks (rows q) (rows k) ⟨o + r.val, by omega⟩ (Cert.Spec.block (m.castLE hle)) then 1 else 0 := by
      rw [Finset.sum_eq_single ⟨m.val / 32, hj⟩]
      · rw [hc, he, chosen_eq h, inBlock_apply]
        exact (congrArg (_ * ·) (if_pos rfl)).trans (mul_one _)
      · intro j _ hne
        rw [he, inBlock_apply]
        exact (congrArg (_ * ·) (if_neg fun hv => hne (Fin.ext hv))).trans (mul_zero _)
      · exact fun hn => absurd (Finset.mem_univ _) hn
    have ht : tileScores qt kt (ix2 r m) = (∑ d : Fin 64, rows q ⟨o + r.val, by omega⟩ d * rows k (m.castLE hle) d)
        * Ideal.ofBits .f32 0x3E000000#32 := by
      rw [tileScores_apply]
      simp only [hq, hk]
      rfl
    rw [hp, tileWeights_apply, hs, ht, Cert.Spec.kept]
    by_cases h1 : m.val ≤ o + r.val
    · by_cases h2 : Cert.Spec.Picks (rows q) (rows k) ⟨o + r.val, by omega⟩ (Cert.Spec.block (m.castLE hle))
      · rw [if_pos h1, if_pos h2, if_pos ⟨h1, h2⟩, mul_one]
        rfl
      · rw [if_pos h1, if_neg h2, if_neg (fun hh => h2 hh.2), mul_zero]
    · rw [if_neg h1, if_neg (fun hh => h1 hh.1)]
  rw [tileSum_apply, Cert.Spec.selected]
  have hz : (∑ m ∈ Finset.univ.map (Fin.castLEEmb hle),
        Cert.Spec.kept (rows q) (rows k) ⟨o + r.val, by omega⟩ m * rows v m d)
      = ∑ m : Fin 1024, Cert.Spec.kept (rows q) (rows k) ⟨o + r.val, by omega⟩ m * rows v m d := by
    refine Finset.sum_subset (Finset.subset_univ _) fun m _ hm => ?_
    have hge : W ≤ m.val := by
      by_contra hlt
      exact hm (Finset.mem_map.2 ⟨⟨m.val, by omega⟩, Finset.mem_univ _, Fin.ext rfl⟩)
    rw [Cert.Spec.kept, if_neg (fun hh => ?_), zero_mul]
    have := hh.1
    have hr := r.isLt
    change m.val ≤ o + r.val at this
    omega
  rw [← hz, Finset.sum_map]
  refine Finset.sum_congr rfl fun m _ => ?_
  rw [hkept, hv]
  rfl

omit h in
/-- The first tile is cut by the triangle itself. -/
theorem first_apply (p : FVec Ideal S256x256 .f32) (r m : Fin 256) :
    mulf p lower (ix2 r m) = if m.val ≤ 0 + r.val then p (ix2 r m) else 0 := by
  refine (congrArg (p (ix2 r m) * ·) (lower_apply r m)).trans ?_
  rw [Nat.zero_add]
  split_ifs <;> simp

/-- The selected part of rows 0 … 255. -/
theorem selected0_eq (v : FVec Ideal S1024x64 .f32) (r : Fin 256) (d : Fin 64) :
    selected0 q k v (ix2 r d) = Cert.Spec.selected (rows q) (rows k) (rows v) ⟨0 + r.val, by omega⟩ d := by
  refine tileSum_eq h (o := 0) (W := 256) (R := 8) rfl rfl (by omega) v ?_ ?_ ?_ ?_ ?_
    (fun r m => first_apply _ r m) r d
  all_goals intros
  · pointwise []
  · pointwise [narrow]; rfl
  · pointwise [narrow]; rfl
  · pointwise []
  · pointwise []; rfl

/-- The selected part of rows 256 … 511. -/
theorem selected1_eq (v : FVec Ideal S1024x64 .f32) (r : Fin 256) (d : Fin 64) :
    selected1 q k v (ix2 r d) = Cert.Spec.selected (rows q) (rows k) (rows v) ⟨256 + r.val, by omega⟩ d := by
  refine tileSum_eq h (o := 256) (W := 512) (R := 16) rfl rfl (by omega) v ?_ ?_ ?_ ?_ ?_
    (fun r m => cut_apply _ _ _ _ r m) r d
  all_goals intros
  · pointwise []
  · pointwise [narrow]; rfl
  · pointwise [narrow]; rfl
  · pointwise []
  · pointwise []; rfl

/-- The selected part of rows 512 … 767. -/
theorem selected2_eq (v : FVec Ideal S1024x64 .f32) (r : Fin 256) (d : Fin 64) :
    selected2 q k v (ix2 r d) = Cert.Spec.selected (rows q) (rows k) (rows v) ⟨512 + r.val, by omega⟩ d := by
  refine tileSum_eq h (o := 512) (W := 768) (R := 24) rfl rfl (by omega) v ?_ ?_ ?_ ?_ ?_
    (fun r m => cut_apply _ _ _ _ r m) r d
  all_goals intros
  · pointwise []
  · pointwise [narrow]; rfl
  · pointwise [narrow]; rfl
  · pointwise []
  · pointwise []; rfl

/-- The selected part of rows 768 … 1023. -/
theorem selected3_eq (v : FVec Ideal S1024x64 .f32) (r : Fin 256) (d : Fin 64) :
    selected3 q k v (ix2 r d) = Cert.Spec.selected (rows q) (rows k) (rows v) ⟨768 + r.val, by omega⟩ d := by
  refine tileSum_eq h (o := 768) (W := 1024) (R := 32) rfl rfl (by omega) v ?_ ?_ ?_ ?_ ?_
    (fun r m => cut_apply _ _ _ _ r m) r d
  all_goals intros
  · pointwise []
  · pointwise [narrow]; rfl
  · pointwise [narrow]; rfl
  · pointwise []
  · rfl

omit h in
/-- A tile's rows, once its selected part is known. -/
theorem tile_eq {v : FVec Ideal S1024x64 .f32} {wc ws : FVec Ideal S1x64 .f32} {o : ℕ}
    {hs : S1024x64.Slices ![o, 0] S256x64} {hg : S1024x1.Slices ![o, 0] S256x1} {a : FVec Ideal S256x64 .f32} {r : Fin 256}
    {n : Fin 1024} (hn : o + r.val = n.val) (d : Fin 64)
    (ha : a (ix2 r d) = Cert.Spec.selected (rows q) (rows k) (rows v) ⟨o + r.val, by omega⟩ d) :
    tileOut o hs hg (compressed q k v wc) (gate q ws) a (ix2 r d)
      = Cert.Spec.result (rows q) (rows k) (rows v) (weights wc) (weights ws) n d := by
  have e : (⟨o + r.val, by omega⟩ : Fin 1024) = n := Fin.ext hn
  rw [tileOut_apply _ _ _ _ _ _ _ _ (by omega), ha, e, compressed_eq, gate_eq]
  rfl

/-- The head's result. -/
theorem result_eq (v : FVec Ideal S1024x64 .f32) (wc ws : FVec Ideal S1x64 .f32) (n : Fin 1024) (d : Fin 64) :
    result q k v wc ws (ix2 n d) = Cert.Spec.result (rows q) (rows k) (rows v) (weights wc) (weights ws) n d := by
  pointwise [result]
  by_cases h0 : n.val < 256
  · exact (dif_pos h0).trans (tile_eq (Nat.zero_add n.val) d (selected0_eq h v _ d))
  refine (dif_neg h0).trans ?_
  by_cases h1 : n.val - 256 < 256
  · exact (dif_pos h1).trans (tile_eq (show 256 + (n.val - 256) = n.val by omega) d (selected1_eq h v _ d))
  refine (dif_neg h1).trans ?_
  by_cases h2 : n.val - 256 - 256 < 256
  · exact (dif_pos h2).trans (tile_eq (show 512 + (n.val - 256 - 256) = n.val by omega) d (selected2_eq h v _ d))
  refine (dif_neg h2).trans ?_
  exact tile_eq (show 768 + (n.val - 256 - 256 - 256) = n.val by omega) d (selected3_eq h v _ d)

end Cert.KernelIdeal.Head
-- ==== Proof.BodyValue.lean ====
module

public import proofs.«01_k».proof.Proof.Body
public import proofs.«01_k».proof.Proof.HeadValue
public import Idealize.ShloMosaic.Lib.Pipeline.ValueKit

/-!
# The result block at an index

Every element of the result block is the one head's result of `Spec.lean` at the block's own rows.
-/

@[expose] public section

noncomputable section

namespace Cert.KernelIdeal.Body

open Idealize.ShloMosaic Idealize.SL.Sem Cert.KernelIdeal.Gen Cert.KernelIdeal.Head

set_option maxRecDepth 16384

/-- The rows of head `h` of a batch's block. -/
def headRows (x : Vec Ideal S1x1024x8x64 .f32) (h : Fin 8) (n : Fin 1024) (d : Fin 64) : EReal := x (ix4 0 n h d)

/-- The columns of a head, cut from the rows with the heads side by side, are the head's rows. -/
theorem rows_columns (x : Vec Ideal S1x1024x8x64 .f32) (h : Fin 8) (hs : S1024x512.Slices ![0, 64 * h.val] S1024x64) :
    rows (columns (64 * h.val) hs x) = headRows x h :=
  funext fun n => funext fun d => columns_apply h hs x n d

variable {q k : Vec Ideal S1x1024x8x64 .f32} (hd : ∀ h : Fin 8, Cert.Spec.Distinct (headRows q h) (headRows k h))

include hd

/-- What is stored for head `h`. -/
theorem stored_eq (h : Fin 8) (hs : S1024x512.Slices ![0, 64 * h.val] S1024x64) (v : Vec Ideal S1x1024x8x64 .f32)
    (wc ws : FVec Ideal S1x64 .f32) (n : Fin 1024) (d : Fin 64) :
    stored (64 * h.val) hs q k v wc ws (ix4 0 n 0 d)
      = Cert.Spec.result (headRows q h) (headRows k h) (headRows v h) (weights wc) (weights ws) n d := by
  have hD : Cert.Spec.Distinct (rows (columns (64 * h.val) hs q)) (rows (columns (64 * h.val) hs k)) := by
    rw [rows_columns, rows_columns]
    exact hd h
  have e := result_eq hD (columns (64 * h.val) hs v) wc ws n d
  rw [rows_columns, rows_columns, rows_columns] at e
  rw [← e]
  pointwise [stored]

/-- Where a head's piece holds an element, it holds the head's result. -/
theorem piece_at (h : Fin 8) (hs : S1024x512.Slices ![0, 64 * h.val] S1024x64) (v : Vec Ideal S1x1024x8x64 .f32)
    (wc ws : FVec Ideal S1x64 .f32) (n : Fin 1024) (g : Fin 8) (d : Fin 64) :
    View.TileAt (S := S1x1024x8x64) (Val := Elt Ideal) (e := .f32) (ix4 0 n g d) ![0, 0, h.val, 0] S1x1024x1x64.size
      (stored (64 * h.val) hs q k v wc ws)
      (Cert.Spec.result (headRows q g) (headRows k g) (headRows v g) (weights wc) (weights ws) n d) := by
  intro x hx
  have h1 : n.val = 0 + (x 1).val := hx 1
  have h2 : g.val = h.val + (x 2).val := hx 2
  have h3 : d.val = 0 + (x 3).val := hx 3
  have l0 : (x 0).val < 1 := (x 0).isLt
  have l2 : (x 2).val < 1 := (x 2).isLt
  obtain rfl : g = h := Fin.ext (by omega)
  rw [← stored_eq hd g hs v wc ws n d]
  refine congrArg _ (funext fun a => ?_)
  match a with
  | ⟨0, _⟩ => exact Fin.ext (by omega : (x 0).val = 0)
  | ⟨1, _⟩ => exact Fin.ext (by omega : (x 1).val = n.val)
  | ⟨2, _⟩ => exact Fin.ext (by omega : (x 2).val = 0)
  | ⟨3, _⟩ => exact Fin.ext (by omega : (x 3).val = d.val)

/-- The result block. -/
theorem out_apply (v : Vec Ideal S1x1024x8x64 .f32) (wc ws : Vec Ideal S1x64 .f32) (n : Fin 1024) (g : Fin 8) (d : Fin 64) :
    out0_5 q k v wc ws (ix4 0 n g d)
      = Cert.Spec.result (headRows q g) (headRows k g) (headRows v g) (weights wc) (weights ws) n d := by
  have hq : ∀ x : Vec Ideal S1x1024x8x64 .f32, View.ld x r0_0 = x := fun x => View.ld_unit_lit _ x (by decide)
  have hw : ∀ x : Vec Ideal S1x64 .f32, View.ld x r0_1 = x := fun x => View.ld_unit_lit _ x (by decide)
  rw [out_eq, hq, hq, hq, hw, hw]
  refine View.canon_eq_of_allAt _ _ _ (View.cover_of_tiled_head _ _ _ rfl _) ?_
  refine View.allAt_cons_unit _ _ _ _ _ (piece_at hd 7 _ v wc ws n g d) ?_
  refine View.allAt_cons_unit _ _ _ _ _ (piece_at hd 6 _ v wc ws n g d) ?_
  refine View.allAt_cons_unit _ _ _ _ _ (piece_at hd 5 _ v wc ws n g d) ?_
  refine View.allAt_cons_unit _ _ _ _ _ (piece_at hd 4 _ v wc ws n g d) ?_
  refine View.allAt_cons_unit _ _ _ _ _ (piece_at hd 3 _ v wc ws n g d) ?_
  refine View.allAt_cons_unit _ _ _ _ _ (piece_at hd 2 _ v wc ws n g d) ?_
  refine View.allAt_cons_unit _ _ _ _ _ (piece_at hd 1 _ v wc ws n g d) ?_
  refine View.allAt_cons_unit _ _ _ _ _ (piece_at hd 0 _ v wc ws n g d) ?_
  exact View.allAt_nil _ _

end Cert.KernelIdeal.Body
-- ==== Proof.Array.lean ====
module

public import proofs.«01_k».proof.Proof.BodyValue

/-!
# The result array

Batch `b` of the result array is the body's result block of batch `b`, and the run leaves the array, reshaped, in the result.
-/

@[expose] public section

noncomputable section

namespace Cert.KernelIdeal.Array

open Idealize.ShloMosaic Idealize.ShloMosaic.TcCoe Idealize.SL.Sem Cert.KernelIdeal.Gen Cert.KernelIdeal.Head Cert.KernelIdeal.Body

set_option maxRecDepth 16384

/-- The rows of head `h` of batch `b` of an array of batches. -/
def batchRows (x : Vec Ideal S4x1024x8x64 .f32) (b : Fin 4) (h : Fin 8) (n : Fin 1024) (d : Fin 64) : EReal := x (ix4 b n h d)

/-- The result array of five operands. -/
def batches (q k v : Vec Ideal S4x1024x8x64 .f32) (wc ws : Vec Ideal S1x64 .f32) : Vec Ideal S4x1024x8x64 .f32 := fun i =>
  Cert.Spec.result (batchRows q (i 0) (i 2)) (batchRows k (i 0) (i 2)) (batchRows v (i 0) (i 2)) (weights wc) (weights ws)
    (i 1) (i 3)

variable (m : (ℓ : Loc nD τ sig) → Buf (Elt Ideal) ℓ) (c : Dev nD)

/-- Point `t`'s batch. -/
def batch (t : Fin cfg0.N) : Fin 4 := ⟨t.val, t.isLt⟩

/-- The block of queries of grid point `t`. -/
theorem index0 : ∀ t : Fin cfg0.N, win0_0.index t = ![t.val, 0, 0, 0] := by decide +kernel

/-- The block of keys of grid point `t`. -/
theorem index1 : ∀ t : Fin cfg0.N, win0_1.index t = ![t.val, 0, 0, 0] := by decide +kernel

/-- The block of values of grid point `t`. -/
theorem index2 : ∀ t : Fin cfg0.N, win0_2.index t = ![t.val, 0, 0, 0] := by decide +kernel

/-- The first gate's weights are one block. -/
theorem index3 : ∀ t : Fin cfg0.N, win0_3.index t = ![0, 0] := by decide +kernel

/-- The second gate's weights are one block. -/
theorem index4 : ∀ t : Fin cfg0.N, win0_4.index t = ![0, 0] := by decide +kernel

/-- The result block of grid point `t`. -/
theorem index5 : ∀ t : Fin cfg0.N, win0_5.index t = ![t.val, 0, 0, 0] := by decide +kernel

/-- The queries a grid point reads are its batch's. -/
theorem block0 (t : Fin cfg0.N) : headRows (iblk m c 0 t) = batchRows (V m c main_v0) (batch t) := by
  funext h n d
  show iblk m c 0 t (ix4 0 n h d) = V m c main_v0 (ix4 (batch t) n h d)
  blk_simp [iblk]
  refine congrArg (V m c main_v0) ?_
  blk_ext [index0, batch]

/-- The keys a grid point reads are its batch's. -/
theorem block1 (t : Fin cfg0.N) : headRows (iblk m c 1 t) = batchRows (V m c main_v1) (batch t) := by
  funext h n d
  show iblk m c 1 t (ix4 0 n h d) = V m c main_v1 (ix4 (batch t) n h d)
  blk_simp [iblk]
  refine congrArg (V m c main_v1) ?_
  blk_ext [index1, batch]

/-- The values a grid point reads are its batch's. -/
theorem block2 (t : Fin cfg0.N) : headRows (iblk m c 2 t) = batchRows (V m c main_v2) (batch t) := by
  funext h n d
  show iblk m c 2 t (ix4 0 n h d) = V m c main_v2 (ix4 (batch t) n h d)
  blk_simp [iblk]
  refine congrArg (V m c main_v2) ?_
  blk_ext [index2, batch]

/-- The first gate's weights, at every grid point. -/
theorem block3 (t : Fin cfg0.N) : weights (iblk m c 3 t) = weights (V m c main_v3) := by
  funext d
  show iblk m c 3 t (ix2 0 d) = V m c main_v3 (ix2 0 d)
  blk_simp [iblk]
  refine congrArg (V m c main_v3) ?_
  blk_ext [index3]

/-- The second gate's weights, at every grid point. -/
theorem block4 (t : Fin cfg0.N) : weights (iblk m c 4 t) = weights (V m c main_v4) := by
  funext d
  show iblk m c 4 t (ix2 0 d) = V m c main_v4 (ix2 0 d)
  blk_simp [iblk]
  refine congrArg (V m c main_v4) ?_
  blk_ext [index4]

/-- The result array, where no two scores of a row are the same. -/
theorem arr_eq (hd : ∀ b h, Cert.Spec.Distinct (batchRows (V m c main_v0) b h) (batchRows (V m c main_v1) b h)) :
    (dats m 0 c).arrAt 5 cfg0.N
      = batches (V m c main_v0) (V m c main_v1) (V m c main_v2) (V m c main_v3) (V m c main_v4) := by
  refine (dats m 0 c).arrAt_eq_of_covers 5 _ (by decide +kernel) fun t hf y => ?_
  blk_simp
  rw [after0_5]
  have hy : (y 0).val < 1 := (y 0).isLt
  have e0 : y = ix4 0 (y 1) (y 2) (y 3) := by
    funext a
    match a with
    | ⟨0, _⟩ => exact Fin.ext (by omega : (y 0).val = 0)
    | ⟨1, _⟩ => rfl
    | ⟨2, _⟩ => rfl
    | ⟨3, _⟩ => rfl
  have e : (win0_5.blk t).view.emb y = ix4 (batch t) (y 1) (y 2) (y 3) := by
    blk_ext [index5, batch]
  have hD : ∀ h : Fin 8, Cert.Spec.Distinct (headRows (iblk m c 0 t) h) (headRows (iblk m c 1 t) h) := by
    intro h
    rw [block0, block1]
    exact hd _ _
  rw [e]
  refine (congrArg _ e0).trans ?_
  refine (out_apply hD _ _ _ (y 1) (y 2) (y 3)).trans ?_
  rw [block0, block1, block2, block3, block4]
  rfl

end Cert.KernelIdeal.Array
-- ==== Proof.Whole.lean ====
module

public import proofs.«01_k».proof.Proof.Spec
public import Idealize.ShloMosaic.Lib.Pointwise

/-!
# The whole result

The arrays hold four batches of 1024 rows, one batch after the other; each row has eight heads.
-/

@[expose] public section

noncomputable section

namespace Cert.Spec

open Idealize.ShloMosaic

/-- The shape of the operands and of the result. -/
abbrev Rows : Shape := ⟨3, ![4096, 8, 64]⟩

/-- The shape of a gate's weights. -/
abbrev Weights : Shape := ⟨1, ![64]⟩

/-- Row `n` of batch `b`. -/
def place (b : Fin 4) (n : Fin 1024) : Fin 4096 := ⟨b.val * 1024 + n.val, by omega⟩

/-- The rows of head `h` of batch `b`. -/
def head (x : Vec Ideal Rows .f32) (b : Fin 4) (h : Fin 8) (n : Fin 1024) (d : Fin 64) : EReal := x (ix3 (place b n) h d)

/-- A gate's weights. -/
def line (w : Vec Ideal Weights .f32) (d : Fin 64) : EReal := w (ix1 d)

/-- The batch of a row. -/
def batchOf (r : Fin 4096) : Fin 4 := ⟨r.val / 1024, by omega⟩

/-- A row's number in its batch. -/
def rowOf (r : Fin 4096) : Fin 1024 := ⟨r.val % 1024, by omega⟩

/-- The whole result. -/
def whole (q k v : Vec Ideal Rows .f32) (wc ws : Vec Ideal Weights .f32) : Vec Ideal Rows .f32 := fun i =>
  result (head q (batchOf (i 0)) (i 1)) (head k (batchOf (i 0)) (i 1)) (head v (batchOf (i 0)) (i 1)) (line wc) (line ws)
    (rowOf (i 0)) (i 2)

end Cert.Spec
-- ==== Proof.KernelRun.lean ====
module

public import proofs.«01_k».proof.Proof.Array
public import proofs.«01_k».proof.Proof.Whole

/-!
# The kernel's run

The kernel ends with the whole result of `Whole.lean` in its result buffer, and its arguments unchanged.
-/

@[expose] public section

noncomputable section

namespace Cert.KernelIdeal.Array

open Idealize.ShloMosaic Idealize.ShloMosaic.TcCoe Idealize.SL.Sem Cert.KernelIdeal.Gen Cert.KernelIdeal.Head Cert.KernelIdeal.Body

set_option maxRecDepth 16384

/-- The array of batches a row array is. -/
def split (x : Vec Ideal S4096x8x64 .f32) : Vec Ideal S4x1024x8x64 .f32 := shapeCast S4x1024x8x64 x shapeCasts_S4096x8x64_S4x1024x8x64

/-- The rows of the split array are the heads' rows. -/
theorem batchRows_split (x : Vec Ideal S4096x8x64 .f32) : batchRows (split x) = Cert.Spec.head x := by
  funext b h n d
  show split x (ix4 b n h d) = x (ix3 (Cert.Spec.place b n) h d)
  pointwise [split]
  rfl

/-- A gate's weights, read as one row. -/
theorem weights_row (w : Vec Ideal S64 .f32) : weights (shapeCast S1x64 w shapeCasts_S64_S1x64) = Cert.Spec.line w := by
  funext d
  show shapeCast S1x64 w shapeCasts_S64_S1x64 (ix2 0 d) = w (ix1 d)
  pointwise []

/-- The batches put together again are the whole result. -/
theorem join_eq (q k v : Vec Ideal S4096x8x64 .f32) (wc ws : Vec Ideal S64 .f32) :
    shapeCast S4096x8x64 (batches (split q) (split k) (split v) (shapeCast S1x64 wc shapeCasts_S64_S1x64)
      (shapeCast S1x64 ws shapeCasts_S64_S1x64)) shapeCasts_S4x1024x8x64_S4096x8x64 = Cert.Spec.whole q k v wc ws := by
  funext i
  obtain ⟨r, h, d, rfl⟩ : ∃ r h d, i = ix3 r h d := ⟨i 0, i 1, i 2, by funext a; fin_cases a <;> rfl⟩
  pointwise []
  unfold batches Cert.Spec.whole
  rw [batchRows_split, batchRows_split, batchRows_split, weights_row, weights_row]
  rfl

variable (m : (ℓ : Loc nD τ sig) → Buf (Elt Ideal) ℓ) (ρ : Dev nD → PrngReg)

/-- What the first window reads: the split queries. -/
theorem V0_eq (c : Dev nD) : V m c main_v0 = split (m ((c : Thread nD τ).loc main_arg0)) := by
  dsimp only [V, V0, hostOps0, List.flatten_cons, List.flatten_nil, List.cons_append, List.nil_append, List.append_nil]; after_results; rfl

/-- What the second window reads: the split keys. -/
theorem V1_eq (c : Dev nD) : V m c main_v1 = split (m ((c : Thread nD τ).loc main_arg1)) := by
  dsimp only [V, V0, hostOps0, List.flatten_cons, List.flatten_nil, List.cons_append, List.nil_append, List.append_nil]; after_results; rfl

/-- What the third window reads: the split values. -/
theorem V2_eq (c : Dev nD) : V m c main_v2 = split (m ((c : Thread nD τ).loc main_arg2)) := by
  dsimp only [V, V0, hostOps0, List.flatten_cons, List.flatten_nil, List.cons_append, List.nil_append, List.append_nil]; after_results; rfl

/-- What the fourth window reads: the first gate's weights as a row. -/
theorem V3_eq (c : Dev nD) : V m c main_v3 = shapeCast S1x64 (m ((c : Thread nD τ).loc main_arg5)) shapeCasts_S64_S1x64 := by
  dsimp only [V, V0, hostOps0, List.flatten_cons, List.flatten_nil, List.cons_append, List.nil_append, List.append_nil]; after_results; rfl

/-- What the fifth window reads: the second gate's weights as a row. -/
theorem V4_eq (c : Dev nD) : V m c main_v4 = shapeCast S1x64 (m ((c : Thread nD τ).loc main_arg6)) shapeCasts_S64_S1x64 := by
  dsimp only [V, V0, hostOps0, List.flatten_cons, List.flatten_nil, List.cons_append, List.nil_append, List.append_nil]; after_results; rfl

/-- What the last operation leaves. -/
theorem tail_eq (c : Dev nD) : Pipeline.afterTail₀ cfgs (dats m) 0 (V0 m) [hostOps1] c main_v6
    = shapeCast S4096x8x64 ((dats m 0 c).arrAt 5 cfg0.N) shapeCasts_S4x1024x8x64_S4096x8x64 := by
  unfold Pipeline.afterTail₀
  dsimp only [hostOps1, List.flatten_cons, List.flatten_nil, List.cons_append, List.nil_append, List.append_nil]
  after_results
  exact congrArg (fun a => shapeCast S4096x8x64 a shapeCasts_S4x1024x8x64_S4096x8x64)
    (Pipeline.withArrays_arr spec0 (by decide) c (V0 m c) _ 5)

/-- Where no two scores of a row are the same, the run ends with the whole result, and the arguments unchanged. -/
theorem run (hd : ∀ (c : Dev nD) b h, Cert.Spec.Distinct (Cert.Spec.head (m ((c : Thread nD τ).loc main_arg0)) b h)
      (Cert.Spec.head (m ((c : Thread nD τ).loc main_arg1)) b h)) :
    θ_run defs (onTc (τ := τ) (main (F := Ideal))) ⟨m, fun _ => 0, ρ⟩ fun r => ∀ c : Dev nD,
      r.2.mem ((c : Thread nD τ).loc main_v6) = Cert.Spec.whole (m ((c : Thread nD τ).loc main_arg0))
        (m ((c : Thread nD τ).loc main_arg1)) (m ((c : Thread nD τ).loc main_arg2)) (m ((c : Thread nD τ).loc main_arg5))
        (m ((c : Thread nD τ).loc main_arg6)) :=
  (θ_run defs _ _).mono (fun _ h c => by
    refine ((h c).2 main_v6 (Pipeline.mem_restRefs_of main_v6 (by decide) (by decide))).trans ?_
    rw [tail_eq, arr_eq m c (fun b g => by rw [V0_eq, V1_eq, batchRows_split, batchRows_split]; exact hd c b g),
      V0_eq, V1_eq, V2_eq, V3_eq, V4_eq, join_eq]) (run_main m ρ)

end Cert.KernelIdeal.Array
-- ==== Proof.RefRead.lean ====
module

public import proofs.«01_k».proof.Proof.Gen.ReferenceIdeal.Read
public import proofs.«01_k».proof.Proof.Whole
public import Idealize.ShloMosaic.Lib.Pointwise
public import proofs.«01_k».proof.Proof.Words

/-!
# The reference's first stages at an index

The gates, the block means, the scores and their mask.
-/

@[expose] public section

noncomputable section

namespace Cert.ReferenceIdeal.Stage

open Idealize.ShloMosaic Cert.Words Cert.ReferenceIdeal Cert.ReferenceIdeal.Gen Cert.ReferenceIdeal.Read Cert.Spec

variable (x0 x1 x2 : Vec Ideal S4096x8x64 .f32) (w : Vec Ideal S64 .f32) (b : Fin 4) (h : Fin 8)

/-- The rows, split into batches. -/
theorem rows_at (n : Fin 1024) (d : Fin 64) : val_main_v0 (F := Ideal) x0 (ix4 b n h d) = head x0 b h n d := by
  pointwise [val_main_v0]
  rfl

/-- A gate. -/
theorem gate_at (n : Fin 1024) : val_main_v9 (F := Ideal) x0 w (ix3 b n h) = gate (head x0 b h) (line w) n := by
  have e : val_main_v3 (F := Ideal) x0 w (ix3 b n h) = ∑ d : Fin 64, head x0 b h n d * line w d := by
    rw [val_main_v3_apply]
    refine Finset.sum_congr rfl fun d _ => ?_
    refine congrArg₂ (· * ·) ((congrArg _ ?_).trans (rows_at x0 b h n d)) (congrArg w ?_)
    · funext a; fin_cases a <;> rfl
    · funext a; fin_cases a; rfl
  pointwise [val_main_v9, val_main_v8, val_main_v7, val_main_v6, val_main_v5, val_main_v4, val_main_cst, val_main_cst_0]
  rw [e]
  rfl

/-- A block mean. -/
theorem mean_at (j : Fin 32) (d : Fin 64) : val_main_v27 (F := Ideal) x1 (ix4 b j h d) = mean (head x1 b h) j d := by
  pointwise [val_main_v27, val_main_v26, val_main_v25, val_main_v24, val_main_cst_5, val_main_cst_6]
  exact congrArg (Ideal.div · _) (Finset.sum_congr rfl fun r _ => rows_at x1 b h _ d)

/-- A block's score for a row. -/
theorem score_at (n : Fin 1024) (j : Fin 32) :
    val_main_v34 (F := Ideal) x0 x1 (ix4 b h n j) = score (head x0 b h) (head x1 b h) n j := by
  pointwise [val_main_v34, val_main_v33, val_main_v32, val_main_cst_9]
  refine congrArg (· * _) (Finset.sum_congr rfl fun d _ => ?_)
  rw [mean_at]
  exact (congrArg (· * _) (rows_at x0 b h n d)).trans (mul_comm _ _)

/-- The block a row lies in. -/
theorem rowBlock_at (n : Fin 1024) : val_main_v36 (F := Ideal) (ix1 n) = BitVec.ofNat 32 (n.val / 32) := by
  pointwise [val_main_v36, val_main_call0_v13, val_main_call0_v12, val_main_call0_c_0, val_main_call0_v11,
    val_main_call0_v10, val_main_call0_v9, val_main_call0_c, val_main_call0_v8, val_main_call0_v7, val_main_call0_v6,
    val_main_call0_v5, val_main_call0_v4, val_main_call0_v3, val_main_call0_v2, val_main_call0_v1, val_main_call0_v0,
    val_main_c, val_main_v35]
  revert n
  decide +kernel

/-- Whether a block starts no later than a row. -/
theorem causal_at (n : Fin 1024) (j : Fin 32) :
    val_main_v42 (F := Ideal) (ix2 n j) = if j.val * 32 ≤ n.val then 1#1 else 0#1 := by
  pointwise [val_main_v42, val_main_v41, val_main_v40, val_main_v39, val_main_v38, val_main_v37]
  rw [rowBlock_at]
  refine (cmpi_sge_ofNat (by omega) (by omega)).trans (if_congr ?_ rfl rfl)
  omega

/-- The masked scores. -/
theorem row_at (n : Fin 1024) (j : Fin 32) :
    val_main_v44 (F := Ideal) x0 x1 (ix4 b h n j) = row (head x0 b h) (head x1 b h) n j := by
  pointwise [val_main_v44, val_main_call1_v2, val_main_call1_v1, val_main_call1_v0, val_main_cst_10, val_main_v43]
  rw [causal_at, score_at, select_bit]
  rfl

/-- The weights of the compressed part. -/
theorem silu_at (n : Fin 1024) (j : Fin 32) :
    val_main_v57 (F := Ideal) x0 x1 (ix4 b h n j)
      = if j.val * 32 ≤ n.val then silu (score (head x0 b h) (head x1 b h) n j) else 0 := by
  pointwise [val_main_v57, val_main_call3_v2, val_main_call3_v1, val_main_call3_v0, val_main_cst_14, val_main_v49,
    val_main_v56, val_main_v55, val_main_v54, val_main_cst_13, val_main_v53, val_main_v52, val_main_cst_12, val_main_v51,
    val_main_v50]
  rw [causal_at, row_at, select_bit]
  by_cases hj : j.val * 32 ≤ n.val
  · rw [if_pos hj, if_pos hj, row, if_pos hj]
    rfl
  · rw [if_neg hj, if_neg hj]
    exact Ideal.ofBits_zero .f32

/-- The gated compressed part. -/
theorem compressed_at (n : Fin 1024) (d : Fin 64) :
    val_main_v62 (F := Ideal) x0 x1 x2 w (ix4 b n h d)
      = compressed (head x0 b h) (head x1 b h) (head x2 b h) n d * gate (head x0 b h) (line w) n := by
  pointwise [val_main_v62, val_main_v61, val_main_v60, val_main_v59, val_main_v58]
  rw [gate_at]
  refine congrArg (· * _) (Finset.sum_congr rfl fun j _ => ?_)
  rw [silu_at]
  exact (congrArg (· * _) (mean_at x2 b h j d)).trans (mul_comm _ _)

end Cert.ReferenceIdeal.Stage
-- ==== Proof.RefPick.lean ====
module

public import proofs.«01_k».proof.Proof.RefRead
public import proofs.«01_k».proof.Proof.Rank
public import Idealize.ShloMosaic.Lib.Pointwise

/-!
# The blocks the reference picks

The reference sorts a row's masked block scores, greatest first and equal ones in block order, takes the first eight
positions, strikes out those past the row's own block, and marks the blocks that are left.
-/

@[expose] public section

noncomputable section

namespace Cert.ReferenceIdeal.Stage

open Idealize.ShloMosaic Cert.Words Cert.ReferenceIdeal Cert.ReferenceIdeal.Gen Cert.ReferenceIdeal.Read Cert.Spec

variable (x0 x1 : Vec Ideal S4096x8x64 .f32) (b : Fin 4) (h : Fin 8)

/-- The `s`-th block of a row's ranking. -/
def ranked (q k : Fin 1024 → Fin 64 → EReal) (n : Fin 1024) (s : Fin 8) : Fin 32 :=
  sortedFrom (fun i j => decide (row q k n j < row q k n i)) (s.castLE (by decide))

/-- The positions a descending sort along the last axis leaves in its first eight places. -/
theorem topK_at (x : S4x8x1024x32.Idx → EReal) (hs) (n : Fin 1024) (s : Fin 8) :
    (Host.topK S4x8x1024x8 3 (FloatOps.cmpfTotal (F := Ideal) (φ := .f32) .gt) x hs).2 (ix4 b h n s)
      = BitVec.ofNat 32 (sortedFrom (fun i j : Fin 32 => decide (x (ix4 b h n j) < x (ix4 b h n i))) (s.castLE (by decide))).val := by
  have e : ∀ i j : Fin 32, (FloatOps.cmpfTotal (F := Ideal) (φ := .f32) .gt (x (ix4 b h n i)) (x (ix4 b h n j)) == 1#1)
      = decide (x (ix4 b h n j) < x (ix4 b h n i)) := by
    intro i j
    show (BitVec.ofBool (decide (x (ix4 b h n j) < x (ix4 b h n i))) == 1#1) = _
    by_cases hp : x (ix4 b h n j) < x (ix4 b h n i) <;> simp [hp]
  have a : ∀ (j : S4x8x1024x32.Idx) (i : Fin 32), j 0 = b → j 1 = h → j 2 = n → j.along 3 i = ix4 b h n i := by
    intro j i h0 h1 h2
    funext a
    fin_cases a
    · exact h0
    · exact h1
    · exact h2
    · rfl
  let J : S4x8x1024x32.Idx := fun a => ⟨0 + (ix4 b h n s (a.cast hs.1.symm)).val,
    Nat.lt_of_lt_of_le (Nat.add_lt_add_left (ix4 b h n s _).isLt _) (hs.2 a)⟩
  have J0 : J 0 = b := Fin.ext (Nat.zero_add _)
  have J1 : J 1 = h := Fin.ext (Nat.zero_add _)
  have J2 : J 2 = n := Fin.ext (Nat.zero_add _)
  have J3 : J 3 = s.castLE (by decide) := Fin.ext (Nat.zero_add _)
  show BitVec.ofNat 32 ((J.along 3 (sortedFrom (fun i j : Fin 32 =>
    FloatOps.cmpfTotal (F := Ideal) (φ := .f32) .gt (x (J.along 3 i)) (x (J.along 3 j)) == 1#1) (J 3))) 3).val = _
  refine congrArg (fun t : Fin 32 => BitVec.ofNat 32 t.val) ((congrFun (a J _ J0 J1 J2) 3).trans ?_)
  refine congrArg₂ (fun f p => sortedFrom (n := 32) f p) (funext fun i => funext fun j => ?_) J3
  exact (congrArg₂ (fun u v => FloatOps.cmpfTotal (F := Ideal) (φ := .f32) .gt (x u) (x v) == 1#1) (a J i J0 J1 J2)
    (a J j J0 J1 J2)).trans (e i j)

/-- The blocks of a row's ranking. -/
theorem indices_at (n : Fin 1024) (s : Fin 8) :
    val_main_indices (F := Ideal) x0 x1 (ix4 b h n s) = BitVec.ofNat 32 (ranked (head x0 b h) (head x1 b h) n s).val := by
  refine (topK_at b h _ _ n s).trans (congrArg (fun t : Fin 32 => BitVec.ofNat 32 t.val) ?_)
  unfold ranked
  simp only [row_at]

/-- Whether the `s`-th of a row's ranking is the block `j` and was not struck out. -/
theorem mark_at (n : Fin 1024) (s : Fin 8) (j : Fin 32) :
    val_main_v77 (F := Ideal) x0 x1 (ix5 b h n s j)
      = if (ranked (head x0 b h) (head x1 b h) n s).val ≤ n.val / 32 ∧ ranked (head x0 b h) (head x1 b h) n s = j
        then 1#1 else 0#1 := by
  have e : val_main_v48 (F := Ideal) x0 x1 (ix4 b h n s)
      = if (ranked (head x0 b h) (head x1 b h) n s).val ≤ n.val / 32
        then BitVec.ofNat 32 (ranked (head x0 b h) (head x1 b h) n s).val else 4294967295#32 := by
    pointwise [val_main_v48, val_main_v47, val_main_v46, val_main_v45, val_main_call2_v1, val_main_call2_v0, val_main_c_11]
    rw [rowBlock_at, indices_at]
    exact struck_word _ ⟨n.val / 32, by omega⟩
  pointwise [val_main_v77, val_main_v76, val_main_v75, val_main_v74, val_main_v73, val_main_v72, val_main_v71, val_main_v70,
    val_main_v69, val_main_v68, val_main_v67, val_main_v66, val_main_c_15, val_main_c_16, val_main_call4_v1, val_main_call4_v0]
  exact pick_word _ ⟨n.val / 32, by omega⟩ j _ e

/-- The axis the marks are joined along. -/
theorem marks_axis : S4x8x1024x8x32.Reduces [3] S4x8x1024x32 := by decide

/-- A row's mark of a block by its place in the ranking. -/
theorem lift_at (n : Fin 1024) (j : Fin 32) (s : Fin 8) : marks_axis.lift (ix4 b h n j) s = ix5 b h n s j := by
  funext a
  fin_cases a <;> rfl

/-- The places of a row's ranking that hold a block are the first eight. -/
theorem ranked_iff (q k : Fin 1024 → Fin 64 → EReal) (n : Fin 1024) (j : Fin 32) :
    (∃ s ∈ (Finset.univ : Finset (Fin 8)), (ranked q k n s).val ≤ n.val / 32 ∧ ranked q k n s = j) ↔ Picks q k n j := by
  unfold Picks
  rw [← Cert.Rank.mem_first_iff (row q k n) 8 j]
  constructor
  · rintro ⟨s, -, hs, rfl⟩
    exact ⟨⟨s.castLE (by decide), s.isLt, rfl⟩, by omega⟩
  · rintro ⟨⟨s, h8, hs⟩, hj⟩
    have hr : ranked q k n ⟨s.val, h8⟩ = j := hs
    exact ⟨⟨s.val, h8⟩, Finset.mem_univ _, by rw [hr]; omega, hr⟩

/-- The marked blocks of a row are the ones it picks. -/
theorem picks_at (n : Fin 1024) (j : Fin 32) :
    val_main_v78 (F := Ideal) x0 x1 (ix4 b h n j) = if Picks (head x0 b h) (head x1 b h) n j then 1#1 else 0#1 := by
  unfold val_main_v78
  rw [Host.reduce_eq_fold_single _ _ _ _ marks_axis]
  have f : (val_main_v77 (F := Ideal) x0 x1 ∘ marks_axis.lift (ix4 b h n j) : Fin 8 → BitVec 1)
      = fun s => if (ranked (head x0 b h) (head x1 b h) n s).val ≤ n.val / 32 ∧ ranked (head x0 b h) (head x1 b h) n s = j
        then 1#1 else 0#1 :=
    funext fun s => (congrArg _ (lift_at b h n j s)).trans (mark_at x0 x1 b h n s j)
  refine (congrArg (fun g : Fin 8 → BitVec 1 => Finset.univ.fold IntOp.ori 0#1 g) f).trans ?_
  rw [fold_ori]
  simp only [ranked_iff]

end Cert.ReferenceIdeal.Stage
-- ==== Proof.RefValue.lean ====
module

public import proofs.«01_k».proof.Proof.RefPick
public import proofs.«01_k».proof.Proof.Gen.ReferenceIdeal.Run

/-!
# What the reference computes

The selected part, the sum of the two gated parts and the whole result, read at an index; and the reference's run.
-/

@[expose] public section

noncomputable section

namespace Cert.ReferenceIdeal.Stage

open Idealize.ShloMosaic Cert.Words Cert.ReferenceIdeal Cert.ReferenceIdeal.Gen Cert.ReferenceIdeal.Read Cert.Spec

variable (x0 x1 x2 : Vec Ideal S4096x8x64 .f32) (wc ws : Vec Ideal S64 .f32) (b : Fin 4) (h : Fin 8)

/-- A block's mark, repeated for the keys of the block. -/
theorem picked_at (n m : Fin 1024) :
    val_main_v80 (F := Ideal) x0 x1 (ix4 b h n m)
      = if Picks (head x0 b h) (head x1 b h) n (block m) then 1#1 else 0#1 := by
  rw [val_main_v80_apply, val_main_v79_apply, ← picks_at]
  refine congrArg _ ?_
  funext a
  fin_cases a
  · exact Fin.ext (by show ((((b.val * 8 + h.val) * 1024 + n.val) * 1024 + m.val) / 8388608) = b.val; omega)
  · exact Fin.ext (by show ((((b.val * 8 + h.val) * 1024 + n.val) * 1024 + m.val) / 1048576 % 8) = h.val; omega)
  · exact Fin.ext (by show ((((b.val * 8 + h.val) * 1024 + n.val) * 1024 + m.val) / 1024 % 1024) = n.val; omega)
  · exact Fin.ext (by show ((((b.val * 8 + h.val) * 1024 + n.val) * 1024 + m.val) / 32 % 32) = m.val / 32; omega)

/-- Whether a key comes no later than a row. -/
theorem earlier_at (n m : Fin 1024) :
    val_main_v86 (F := Ideal) (ix2 n m) = if m.val ≤ n.val then 1#1 else 0#1 := by
  pointwise [val_main_v86, val_main_v85, val_main_v84, val_main_v83, val_main_v82, val_main_v81]
  exact cmpi_sge_ofNat (by omega) (by omega)

/-- The scaled product of a row and a key. -/
theorem product_at (n m : Fin 1024) :
    val_main_v89 (F := Ideal) x0 x1 (ix4 b h n m)
      = (∑ d : Fin 64, head x0 b h n d * head x1 b h m d) * Ideal.ofBits .f32 0x3E000000#32 := by
  pointwise [val_main_v89, val_main_v88, val_main_v87, val_main_cst_18, val_main_v63, val_main_v64]
  refine congrArg (· * _) (Finset.sum_congr rfl fun d _ => ?_)
  exact congrArg₂ (· * ·) (rows_at x0 b h n d) (rows_at x1 b h m d)

/-- The weights of the selected part. -/
theorem kept_at (n m : Fin 1024) :
    val_main_v100 (F := Ideal) x0 x1 (ix4 b h n m) = kept (head x0 b h) (head x1 b h) n m := by
  pointwise [val_main_v100, val_main_v92, val_main_v91, val_main_v90, val_main_call5_v1, val_main_call5_v0, val_main_cst_21,
    val_main_v99, val_main_v98, val_main_v97, val_main_v96, val_main_v95, val_main_v94, val_main_v93, val_main_cst_19,
    val_main_cst_20]
  rw [picked_at, earlier_at, product_at]
  by_cases hp : Picks (head x0 b h) (head x1 b h) n (block m) <;> by_cases hm : m.val ≤ n.val
  · rw [if_pos hp, if_pos hm]
    exact (if_pos ⟨hm, hp⟩).symm
  · rw [if_pos hp, if_neg hm]
    exact (Ideal.ofBits_zero .f32).trans (if_neg fun e => hm e.1).symm
  · rw [if_neg hp, if_pos hm]
    exact (Ideal.ofBits_zero .f32).trans (if_neg fun e => hp e.2).symm
  · rw [if_neg hp, if_neg hm]
    exact (Ideal.ofBits_zero .f32).trans (if_neg fun e => hm e.1).symm

/-- The selected part. -/
theorem selected_at (n : Fin 1024) (d : Fin 64) :
    val_main_v101 (F := Ideal) x0 x1 x2 (ix4 b h n d) = selected (head x0 b h) (head x1 b h) (head x2 b h) n d := by
  rw [val_main_v101_apply]
  refine Finset.sum_congr rfl fun m _ => congrArg₂ (· * ·) ((congrArg _ ?_).trans (kept_at x0 x1 b h n m)) ?_
  · funext a
    fin_cases a <;> rfl
  · rw [val_main_v65_apply]
    refine (congrArg _ ?_).trans (rows_at x2 b h m d)
    funext a
    fin_cases a <;> rfl

/-- The two gates are one function of their weights. -/
theorem gates_eq : val_main_v16 (F := Ideal) x0 ws = val_main_v9 x0 ws := by
  unfold val_main_v16 val_main_v15 val_main_v14 val_main_v13 val_main_v12 val_main_v11 val_main_v10 val_main_cst_1 val_main_cst_2
    val_main_v9 val_main_v8 val_main_v7 val_main_v6 val_main_v5 val_main_v4 val_main_v3 val_main_cst val_main_cst_0
  rfl

/-- The second gate, repeated along a row's entries. -/
theorem gates_at (n : Fin 1024) (d : Fin 64) :
    val_main_v104 (F := Ideal) x0 ws (ix4 b h n d) = val_main_v16 (F := Ideal) x0 ws (ix3 b n h) := by
  rw [val_main_v104_apply, val_main_v103_apply, val_main_v102_apply]
  refine congrArg _ ?_
  funext a
  fin_cases a <;> rfl

/-- The sum of the two gated parts. -/
theorem result_at (n : Fin 1024) (d : Fin 64) :
    val_main_v107 (F := Ideal) x0 x1 x2 wc ws (ix4 b n h d)
      = result (head x0 b h) (head x1 b h) (head x2 b h) (line wc) (line ws) n d := by
  have e : idx_main_v106 (ix4 b n h d) = ix4 b h n d := by
    funext a
    fin_cases a <;> rfl
  rw [val_main_v107_apply, val_main_v106_apply, val_main_v105_apply, e, compressed_at, selected_at, gates_at, gates_eq, gate_at]
  rfl

/-- The whole result. -/
theorem whole_eq : val_main_v108 (F := Ideal) x0 x1 x2 wc ws = whole x0 x1 x2 wc ws := by
  funext i
  rw [val_main_v108_apply]
  refine (congrArg _ ?_).trans (result_at x0 x1 x2 wc ws (batchOf (i 0)) (i 1) (rowOf (i 0)) (i 2))
  have h0 : (i 0).val < 4096 := (i 0).isLt
  have h1 : (i 1).val < 8 := (i 1).isLt
  have h2 : (i 2).val < 64 := (i 2).isLt
  funext a
  fin_cases a
  · exact Fin.ext (by show (((i 0).val * 8 + (i 1).val) * 64 + (i 2).val) / 524288 = (i 0).val / 1024; omega)
  · exact Fin.ext (by show (((i 0).val * 8 + (i 1).val) * 64 + (i 2).val) / 512 % 1024 = (i 0).val % 1024; omega)
  · exact Fin.ext (by show (((i 0).val * 8 + (i 1).val) * 64 + (i 2).val) / 64 % 8 = (i 1).val; omega)
  · exact Fin.ext (by show (((i 0).val * 8 + (i 1).val) * 64 + (i 2).val) % 64 = (i 2).val; omega)

end Cert.ReferenceIdeal.Stage
-- ==== Proof.Pre.lean ====
module

public import proofs.«01_k».proof.Defs
public import proofs.«01_k».proof.Proof.Gen.Pre_distinct_scores
public import proofs.«01_k».proof.Proof.Whole
public import proofs.«01_k».proof.Proof.Words
public import Idealize.ShloMosaic.Lib.Pointwise

/-!
# The precondition

The precondition compares the scores of every two blocks. Read at an index, it says that no two blocks' scores tie.
-/

@[expose] public section

noncomputable section

namespace Cert.Pre_distinct_scores.Gen

open Idealize.ShloMosaic Cert.Words Cert.Pre_distinct_scores Cert.Spec

variable (x0 x1 x2 x3 : Vec Ideal S4096x8x64 .f32) (x4 : IVec S5 32) (x5 x6 x7 : Vec Ideal S64 .f32) (b : Fin 4) (h : Fin 8)

/-- A block's score, its factors in the precondition's order. -/
theorem score_eq (n : Fin 1024) (j : Fin 32) (h0 : b.val * 1024 + n.val < 4096)
    (h1 : ∀ r : Fin 32, b.val * 1024 + j.val * 32 + r.val < 4096) :
    (∑ d : Fin 64, x0 (ix3 ⟨b.val * 1024 + n.val, h0⟩ h d)
        * Ideal.div (∑ r : Fin 32, x1 (ix3 ⟨b.val * 1024 + j.val * 32 + r.val, h1 r⟩ h d)) (Ideal.ofBits .f32 0x42000000#32))
      * Ideal.ofBits .f32 0x3E000000#32 = score (head x0 b h) (head x1 b h) n j := by
  refine congrArg (· * _) (Finset.sum_congr rfl fun d _ => (mul_comm _ _).trans (congrArg (· * _) ?_))
  refine congrArg (Ideal.div · _) (Finset.sum_congr rfl fun r _ => congrArg (fun e => x1 (ix3 e h d)) (Fin.ext ?_))
  exact Nat.add_assoc _ _ _

/-- The precondition at an index. -/
theorem fn_at (n : Fin 1024) (i j : Fin 32) :
    fn (F := Ideal) x0 x1 x2 x3 x4 x5 x6 x7 (ix5 b h n i j)
      = ~~~IntOp.andi (IntOp.andi (IntOp.andi
          (BitVec.ofBool (decide (score (head x0 b h) (head x1 b h) n i = score (head x0 b h) (head x1 b h) n j)))
          (IntOp.cmpi .slt (BitVec.ofNat 32 i.val) (BitVec.ofNat 32 j.val)))
          (IntOp.cmpi .sle (IntOp.muli (BitVec.ofNat 32 j.val) 32#32) (BitVec.ofNat 32 n.val)))
          (IntOp.cmpi .sge (BitVec.ofNat 32 n.val) 256#32) := by
  rw [← score_eq x0 x1 b h n i (by omega) (by omega), ← score_eq x0 x1 b h n j (by omega) (by omega)]
  unfold fn fn_part1
  pointwise []

/-- The words of two blocks in order. -/
theorem slt_blocks (i j : Fin 32) (hij : i < j) : IntOp.cmpi .slt (BitVec.ofNat 32 i.val) (BitVec.ofNat 32 j.val) = 1#1 := by
  revert i j
  decide +kernel

/-- The word of a block's first row. -/
theorem first_row (j : Fin 32) : IntOp.muli (BitVec.ofNat 32 j.val) 32#32 = BitVec.ofNat 32 (j.val * 32) := by
  revert j
  decide +kernel

/-- Under the precondition no two blocks' scores tie. -/
theorem distinct (hp : fn (F := Ideal) x0 x1 x2 x3 x4 x5 x6 x7 = fun _ => 1#1) :
    Distinct (head x0 b h) (head x1 b h) := by
  intro n i j hn hij hj he
  have e := (fn_at x0 x1 x2 x3 x4 x5 x6 x7 b h n i j).symm.trans (congrFun hp _)
  have h0 : IntOp.cmpi .sle (BitVec.ofNat 32 (j.val * 32)) (BitVec.ofNat 32 n.val) = 1#1 :=
    (cmpi_sge_ofNat (by omega) (by omega)).trans (if_pos hj)
  have h1 : IntOp.cmpi .sge (BitVec.ofNat 32 n.val) 256#32 = 1#1 := (cmpi_sge_ofNat (by omega) (by omega)).trans (if_pos hn)
  rw [first_row, slt_blocks i j hij, h0, h1, decide_eq_true he] at e
  exact absurd e (by decide)

end Cert.Pre_distinct_scores.Gen
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

/-- Under the precondition no two blocks' scores tie, in any batch and head. -/
theorem distinct {m : (ℓ : Loc Cert.KernelIdeal.nD Cert.KernelIdeal.τ Cert.KernelIdeal.sig) → Buf (Elt Ideal) ℓ}
    (hp : Cert.Pre_KernelIdeal_distinct_scores (hPre_distinct_scores := Cert.Pre_distinct_scores.Gen.facts) m)
    (c : Dev Cert.KernelIdeal.nD) (b : Fin 4) (h : Fin 8) :
    Cert.Spec.Distinct
      (Cert.Spec.head (m ((c.tc : Thread Cert.KernelIdeal.nD Cert.KernelIdeal.τ).loc Cert.KernelIdeal.main_arg0)) b h)
      (Cert.Spec.head (m ((c.tc : Thread Cert.KernelIdeal.nD Cert.KernelIdeal.τ).loc Cert.KernelIdeal.main_arg1)) b h) :=
  Cert.Pre_distinct_scores.Gen.distinct _ _ _ _ _ _ _ _ b h (hp c)

/-- The kernel and the reference leave the same result, the whole of `Whole.lean`. -/
theorem algebraic : Cert.algebraic_KernelIdeal_ReferenceIdeal_pre_distinct_scores (hKernelIdeal := Cert.KernelIdeal.Gen.facts)
    (hReferenceIdeal := Cert.ReferenceIdeal.Gen.facts) (hPre_distinct_scores := Cert.Pre_distinct_scores.Gen.facts) := by
  intro m g m' g' hp ha
  refine ⟨fun c => Cert.Spec.whole (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · exact (θ_run _ _ _).mono (fun _ h c => ⟨h.1 c, h.2 c⟩)
      (θ_run_and (Cert.KernelIdeal.Array.run m g (distinct hp)) (Cert.KernelIdeal.Gen.unchanged m g))
  · refine (θ_run _ _ _).mono (fun _ h c => ⟨(h c).1.trans ?_, (h c).2⟩) (Cert.ReferenceIdeal.Value.run (F := Ideal) m' g')
    obtain ⟨h0, h1, h2, -, -, h5, h6, -⟩ := ha c
    refine (Cert.ReferenceIdeal.Read.val_main_v108_eq ..).trans ?_
    rw [Cert.ReferenceIdeal.Stage.whole_eq, h0, h1, h2, h5, h6]

/-- The claims. -/
theorem claim : Cert.Claim := ⟨Cert.Kernel.Gen.facts, Cert.KernelIdeal.Gen.facts, Cert.ReferenceIdeal.Gen.facts,
  Cert.Pre_distinct_scores.Gen.facts,
  fun m ρ _ => Cert.Kernel.Gen.frame m ρ, fun m ρ _ => Cert.KernelIdeal.Gen.frame m ρ,
  fun m ρ _ => Cert.KernelIdeal.Gen.frame m ρ,
  fun m ρ _ => (θ_run _ _ _).mono (fun _ h => ⟨fun c => (h c).2, sem_eq_zero_of_no_sems (by decide) _⟩) (Cert.ReferenceIdeal.Value.run (F := Ideal) m ρ),
  fun m ρ _ => (θ_run _ _ _).mono (fun _ h => ⟨fun c => (h c).2, sem_eq_zero_of_no_sems (by decide) _⟩) (Cert.ReferenceIdeal.Value.run (F := Ideal) m ρ),
  IdealRules.named_const.statement Cert.KernelIdeal.κ "mask" .f32 0xCE6E6B28#32 ⊥ rfl,
  algebraic⟩

end Cert.Proof
